-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v76)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v76) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v222) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ preserves_Kernel2_Kernel2Ideal
    ∧ algebraic_Kernel2Ideal_Reference2Ideal (hKernel2Ideal := hKernel2Ideal) (hReference2Ideal := hReference2Ideal)
-- ==== Kernel.lean ====
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S12288x4 : Shape := ⟨2, ![12288, 4]⟩
abbrev S3072x4 : Shape := ⟨2, ![3072, 4]⟩
abbrev S768x4 : Shape := ⟨2, ![768, 4]⟩
abbrev S8x1 : Shape := ⟨2, ![8, 1]⟩
abbrev S_ : Shape := ⟨0, ![]⟩
abbrev S2x256x66x66 : Shape := ⟨4, ![2, 256, 66, 66]⟩
abbrev S2x1x256x64x64 : Shape := ⟨5, ![2, 1, 256, 64, 64]⟩
abbrev S2x9x256x64x64 : Shape := ⟨5, ![2, 9, 256, 64, 64]⟩
abbrev S2x2304x4096 : Shape := ⟨3, ![2, 2304, 4096]⟩
abbrev S2x256x34x34 : Shape := ⟨4, ![2, 256, 34, 34]⟩
abbrev S2x1x256x32x32 : Shape := ⟨5, ![2, 1, 256, 32, 32]⟩
abbrev S2x9x256x32x32 : Shape := ⟨5, ![2, 9, 256, 32, 32]⟩
abbrev S2x2304x1024 : Shape := ⟨3, ![2, 2304, 1024]⟩
abbrev S2x256x18x18 : Shape := ⟨4, ![2, 256, 18, 18]⟩
abbrev S2x1x256x16x16 : Shape := ⟨5, ![2, 1, 256, 16, 16]⟩
abbrev S2x9x256x16x16 : Shape := ⟨5, ![2, 9, 256, 16, 16]⟩
abbrev S2x2304x256 : Shape := ⟨3, ![2, 2304, 256]⟩
abbrev S2x2304x5376 : Shape := ⟨3, ![2, 2304, 5376]⟩
abbrev S2304x2x5376 : Shape := ⟨3, ![2304, 2, 5376]⟩
abbrev S2304x10752 : Shape := ⟨2, ![2304, 10752]⟩
abbrev S256x3x3x256 : Shape := ⟨4, ![256, 3, 3, 256]⟩
abbrev S256x2304 : Shape := ⟨2, ![256, 2304]⟩
abbrev S3x256 : Shape := ⟨2, ![3, 256]⟩
abbrev S12x256 : Shape := ⟨2, ![12, 256]⟩
abbrev S15x256 : Shape := ⟨2, ![15, 256]⟩
abbrev S16x256 : Shape := ⟨2, ![16, 256]⟩
abbrev S15 : Shape := ⟨1, ![15]⟩
abbrev S16 : Shape := ⟨1, ![16]⟩
abbrev S16x1 : Shape := ⟨2, ![16, 1]⟩
abbrev S256x1 : Shape := ⟨2, ![256, 1]⟩
abbrev S16x10752 : Shape := ⟨2, ![16, 10752]⟩
abbrev S2304x512 : Shape := ⟨2, ![2304, 512]⟩
abbrev S16x512 : Shape := ⟨2, ![16, 512]⟩
abbrev S256x512 : Shape := ⟨2, ![256, 512]⟩
abbrev S16x2x5376 : Shape := ⟨3, ![16, 2, 5376]⟩
abbrev S8x12288 : Shape := ⟨2, ![8, 12288]⟩
abbrev S16x2x4096 : Shape := ⟨3, ![16, 2, 4096]⟩
abbrev S3x2x4096 : Shape := ⟨3, ![3, 2, 4096]⟩
abbrev S2x4096x3 : Shape := ⟨3, ![2, 4096, 3]⟩
abbrev S2x12288 : Shape := ⟨2, ![2, 12288]⟩
abbrev S12x2x4096 : Shape := ⟨3, ![12, 2, 4096]⟩
abbrev S3x4x2x4096 : Shape := ⟨4, ![3, 4, 2, 4096]⟩
abbrev S4x2x4096x3 : Shape := ⟨4, ![4, 2, 4096, 3]⟩
abbrev S4x2x12288 : Shape := ⟨3, ![4, 2, 12288]⟩
abbrev S1 : Shape := ⟨1, ![1]⟩
abbrev S1x2x12288 : Shape := ⟨3, ![1, 2, 12288]⟩
abbrev S16x2x1024 : Shape := ⟨3, ![16, 2, 1024]⟩
abbrev S3x2x1024 : Shape := ⟨3, ![3, 2, 1024]⟩
abbrev S2x1024x3 : Shape := ⟨3, ![2, 1024, 3]⟩
abbrev S2x3072 : Shape := ⟨2, ![2, 3072]⟩
abbrev S12x2x1024 : Shape := ⟨3, ![12, 2, 1024]⟩
abbrev S3x4x2x1024 : Shape := ⟨4, ![3, 4, 2, 1024]⟩
abbrev S4x2x1024x3 : Shape := ⟨4, ![4, 2, 1024, 3]⟩
abbrev S4x2x3072 : Shape := ⟨3, ![4, 2, 3072]⟩
abbrev S2 : Shape := ⟨1, ![2]⟩
abbrev S1x2x3072 : Shape := ⟨3, ![1, 2, 3072]⟩
abbrev S16x2x256 : Shape := ⟨3, ![16, 2, 256]⟩
abbrev S3x2x256 : Shape := ⟨3, ![3, 2, 256]⟩
abbrev S2x256x3 : Shape := ⟨3, ![2, 256, 3]⟩
abbrev S2x768 : Shape := ⟨2, ![2, 768]⟩
abbrev S12x2x256 : Shape := ⟨3, ![12, 2, 256]⟩
abbrev S3x4x2x256 : Shape := ⟨4, ![3, 4, 2, 256]⟩
abbrev S4x2x256x3 : Shape := ⟨4, ![4, 2, 256, 3]⟩
abbrev S4x2x768 : Shape := ⟨3, ![4, 2, 768]⟩
abbrev S1x2x768 : Shape := ⟨3, ![1, 2, 768]⟩
abbrev S12288x1 : Shape := ⟨2, ![12288, 1]⟩
abbrev S12288 : Shape := ⟨1, ![12288]⟩
abbrev S3072x1 : Shape := ⟨2, ![3072, 1]⟩
abbrev S3072 : Shape := ⟨1, ![3072]⟩
abbrev S768x1 : Shape := ⟨2, ![768, 1]⟩
abbrev S768 : Shape := ⟨1, ![768]⟩
abbrev S2x1024x8 : Shape := ⟨3, ![2, 1024, 8]⟩
abbrev S8x1024 : Shape := ⟨2, ![8, 1024]⟩
abbrev S8x336 : Shape := ⟨2, ![8, 336]⟩
abbrev S8 : Shape := ⟨1, ![8]⟩
abbrev S1x336 : Shape := ⟨2, ![1, 336]⟩
abbrev S1024x8 : Shape := ⟨2, ![1024, 8]⟩
abbrev S1024x1024 : Shape := ⟨2, ![1024, 1024]⟩
abbrev S1x1024 : Shape := ⟨2, ![1, 1024]⟩
abbrev S1024x1 : Shape := ⟨2, ![1024, 1]⟩
abbrev S1024 : Shape := ⟨1, ![1024]⟩
abbrev S1024x4 : Shape := ⟨2, ![1024, 4]⟩
abbrev S1x1024x8 : Shape := ⟨3, ![1, 1024, 8]⟩
abbrev S2x999x4 : Shape := ⟨3, ![2, 999, 4]⟩

abbrev nBuf : Space → Nat
  | .hbm => 340
  | .vmem => 31
  | .smem => 0
  | _ => 0

abbrev hbmTy0_0 (i : Nat) : BufTy := match i % 128 with
  | 0 => ⟨S2x256x64x64, .f32⟩
  | 1 => ⟨S2x256x32x32, .f32⟩
  | 2 => ⟨S2x256x16x16, .f32⟩
  | 3 => ⟨S256x256x3x3, .f32⟩
  | 4 => ⟨S256, .f32⟩
  | 5 => ⟨S3x256x1x1, .f32⟩
  | 6 => ⟨S3, .f32⟩
  | 7 => ⟨S12x256x1x1, .f32⟩
  | 8 => ⟨S12, .f32⟩
  | 9 => ⟨S12288x4, .f32⟩
  | 10 => ⟨S3072x4, .f32⟩
  | 11 => ⟨S768x4, .f32⟩
  | 12 => ⟨S8x1, .i32⟩
  | 13 => ⟨S_, .i32⟩
  | 14 => ⟨S_, .f32⟩
  | 15 => ⟨S2x256x66x66, .f32⟩
  | 16 => ⟨S2x256x64x64, .f32⟩
  | 17 => ⟨S2x256x64x64, .f32⟩
  | 18 => ⟨S2x256x64x64, .f32⟩
  | 19 => ⟨S2x256x64x64, .f32⟩
  | 20 => ⟨S2x256x64x64, .f32⟩
  | 21 => ⟨S2x256x64x64, .f32⟩
  | 22 => ⟨S2x256x64x64, .f32⟩
  | 23 => ⟨S2x256x64x64, .f32⟩
  | 24 => ⟨S2x256x64x64, .f32⟩
  | 25 => ⟨S2x1x256x64x64, .f32⟩
  | 26 => ⟨S2x1x256x64x64, .f32⟩
  | 27 => ⟨S2x1x256x64x64, .f32⟩
  | 28 => ⟨S2x1x256x64x64, .f32⟩
  | 29 => ⟨S2x1x256x64x64, .f32⟩
  | 30 => ⟨S2x1x256x64x64, .f32⟩
  | 31 => ⟨S2x1x256x64x64, .f32⟩
  | 32 => ⟨S2x1x256x64x64, .f32⟩
  | 33 => ⟨S2x1x256x64x64, .f32⟩
  | 34 => ⟨S2x9x256x64x64, .f32⟩
  | 35 => ⟨S2x2304x4096, .f32⟩
  | 36 => ⟨S_, .i32⟩
  | 37 => ⟨S_, .f32⟩
  | 38 => ⟨S2x256x34x34, .f32⟩
  | 39 => ⟨S2x256x32x32, .f32⟩
  | 40 => ⟨S2x256x32x32, .f32⟩
  | 41 => ⟨S2x256x32x32, .f32⟩
  | 42 => ⟨S2x256x32x32, .f32⟩
  | 43 => ⟨S2x256x32x32, .f32⟩
  | 44 => ⟨S2x256x32x32, .f32⟩
  | 45 => ⟨S2x256x32x32, .f32⟩
  | 46 => ⟨S2x256x32x32, .f32⟩
  | 47 => ⟨S2x256x32x32, .f32⟩
  | 48 => ⟨S2x1x256x32x32, .f32⟩
  | 49 => ⟨S2x1x256x32x32, .f32⟩
  | 50 => ⟨S2x1x256x32x32, .f32⟩
  | 51 => ⟨S2x1x256x32x32, .f32⟩
  | 52 => ⟨S2x1x256x32x32, .f32⟩
  | 53 => ⟨S2x1x256x32x32, .f32⟩
  | 54 => ⟨S2x1x256x32x32, .f32⟩
  | 55 => ⟨S2x1x256x32x32, .f32⟩
  | 56 => ⟨S2x1x256x32x32, .f32⟩
  | 57 => ⟨S2x9x256x32x32, .f32⟩
  | 58 => ⟨S2x2304x1024, .f32⟩
  | 59 => ⟨S_, .i32⟩
  | 60 => ⟨S_, .f32⟩
  | 61 => ⟨S2x256x18x18, .f32⟩
  | 62 => ⟨S2x256x16x16, .f32⟩
  | 63 => ⟨S2x256x16x16, .f32⟩
  | 64 => ⟨S2x256x16x16, .f32⟩
  | 65 => ⟨S2x256x16x16, .f32⟩
  | 66 => ⟨S2x256x16x16, .f32⟩
  | 67 => ⟨S2x256x16x16, .f32⟩
  | 68 => ⟨S2x256x16x16, .f32⟩
  | 69 => ⟨S2x256x16x16, .f32⟩
  | 70 => ⟨S2x256x16x16, .f32⟩
  | 71 => ⟨S2x1x256x16x16, .f32⟩
  | 72 => ⟨S2x1x256x16x16, .f32⟩
  | 73 => ⟨S2x1x256x16x16, .f32⟩
  | 74 => ⟨S2x1x256x16x16, .f32⟩
  | 75 => ⟨S2x1x256x16x16, .f32⟩
  | 76 => ⟨S2x1x256x16x16, .f32⟩
  | 77 => ⟨S2x1x256x16x16, .f32⟩
  | 78 => ⟨S2x1x256x16x16, .f32⟩
  | 79 => ⟨S2x1x256x16x16, .f32⟩
  | 80 => ⟨S2x9x256x16x16, .f32⟩
  | 81 => ⟨S2x2304x256, .f32⟩
  | 82 => ⟨S2x2304x5376, .f32⟩
  | 83 => ⟨S2304x2x5376, .f32⟩
  | 84 => ⟨S2304x10752, .f32⟩
  | 85 => ⟨S256x3x3x256, .f32⟩
  | 86 => ⟨S256x2304, .f32⟩
  | 87 => ⟨S3x256, .f32⟩
  | 88 => ⟨S12x256, .f32⟩
  | 89 => ⟨S15x256, .f32⟩
  | 90 => ⟨S_, .i32⟩
  | 91 => ⟨S_, .f32⟩
  | 92 => ⟨S16x256, .f32⟩
  | 93 => ⟨S15, .f32⟩
  | 94 => ⟨S_, .i32⟩
  | 95 => ⟨S_, .f32⟩
  | 96 => ⟨S16, .f32⟩
  | 97 => ⟨S16x1, .f32⟩
  | 98 => ⟨S256x1, .f32⟩
  | 99 => ⟨S16x10752, .f32⟩
  | 100 => ⟨S16x2x5376, .f32⟩
  | 101 => ⟨S_, .f32⟩
  | 102 => ⟨S8x12288, .f32⟩
  | 103 => ⟨S_, .f32⟩
  | 104 => ⟨S8x12288, .f32⟩
  | 105 => ⟨S_, .f32⟩
  | 106 => ⟨S8x12288, .f32⟩
  | 107 => ⟨S_, .f32⟩
  | 108 => ⟨S8x12288, .f32⟩
  | 109 => ⟨S_, .f32⟩
  | 110 => ⟨S8x12288, .f32⟩
  | 111 => ⟨S16x2x4096, .f32⟩
  | 112 => ⟨S3x2x4096, .f32⟩
  | 113 => ⟨S2x4096x3, .f32⟩
  | 114 => ⟨S2x12288, .f32⟩
  | 115 => ⟨S12x2x4096, .f32⟩
  | 116 => ⟨S3x4x2x4096, .f32⟩
  | 117 => ⟨S4x2x4096x3, .f32⟩
  | 118 => ⟨S4x2x12288, .f32⟩
  | 119 => ⟨S_, .i32⟩
  | 120 => ⟨S1, .i32⟩
  | 121 => ⟨S8x12288, .f32⟩
  | 122 => ⟨S1x2x12288, .f32⟩
  | 123 => ⟨S2x12288, .f32⟩
  | 124 => ⟨S_, .i32⟩
  | 125 => ⟨S1, .i32⟩
  | 126 => ⟨S8x12288, .f32⟩
  | 127 => ⟨S1x2x12288, .f32⟩
  | _ => ⟨S2x256x64x64, .f32⟩

abbrev hbmTy0_1 (i : Nat) : BufTy := match i % 128 with
  | 0 => ⟨S2x12288, .f32⟩
  | 1 => ⟨S_, .i32⟩
  | 2 => ⟨S1, .i32⟩
  | 3 => ⟨S8x12288, .f32⟩
  | 4 => ⟨S1x2x12288, .f32⟩
  | 5 => ⟨S2x12288, .f32⟩
  | 6 => ⟨S_, .i32⟩
  | 7 => ⟨S1, .i32⟩
  | 8 => ⟨S8x12288, .f32⟩
  | 9 => ⟨S1x2x12288, .f32⟩
  | 10 => ⟨S2x12288, .f32⟩
  | 11 => ⟨S_, .i32⟩
  | 12 => ⟨S1, .i32⟩
  | 13 => ⟨S8x12288, .f32⟩
  | 14 => ⟨S16x2x1024, .f32⟩
  | 15 => ⟨S3x2x1024, .f32⟩
  | 16 => ⟨S2x1024x3, .f32⟩
  | 17 => ⟨S2x3072, .f32⟩
  | 18 => ⟨S12x2x1024, .f32⟩
  | 19 => ⟨S3x4x2x1024, .f32⟩
  | 20 => ⟨S4x2x1024x3, .f32⟩
  | 21 => ⟨S4x2x3072, .f32⟩
  | 22 => ⟨S_, .i32⟩
  | 23 => ⟨S1, .i32⟩
  | 24 => ⟨S_, .i32⟩
  | 25 => ⟨S1, .i32⟩
  | 26 => ⟨S2, .i32⟩
  | 27 => ⟨S8x12288, .f32⟩
  | 28 => ⟨S1x2x3072, .f32⟩
  | 29 => ⟨S2x3072, .f32⟩
  | 30 => ⟨S_, .i32⟩
  | 31 => ⟨S1, .i32⟩
  | 32 => ⟨S_, .i32⟩
  | 33 => ⟨S1, .i32⟩
  | 34 => ⟨S2, .i32⟩
  | 35 => ⟨S8x12288, .f32⟩
  | 36 => ⟨S1x2x3072, .f32⟩
  | 37 => ⟨S2x3072, .f32⟩
  | 38 => ⟨S_, .i32⟩
  | 39 => ⟨S1, .i32⟩
  | 40 => ⟨S_, .i32⟩
  | 41 => ⟨S1, .i32⟩
  | 42 => ⟨S2, .i32⟩
  | 43 => ⟨S8x12288, .f32⟩
  | 44 => ⟨S1x2x3072, .f32⟩
  | 45 => ⟨S2x3072, .f32⟩
  | 46 => ⟨S_, .i32⟩
  | 47 => ⟨S1, .i32⟩
  | 48 => ⟨S_, .i32⟩
  | 49 => ⟨S1, .i32⟩
  | 50 => ⟨S2, .i32⟩
  | 51 => ⟨S8x12288, .f32⟩
  | 52 => ⟨S1x2x3072, .f32⟩
  | 53 => ⟨S2x3072, .f32⟩
  | 54 => ⟨S_, .i32⟩
  | 55 => ⟨S1, .i32⟩
  | 56 => ⟨S_, .i32⟩
  | 57 => ⟨S1, .i32⟩
  | 58 => ⟨S2, .i32⟩
  | 59 => ⟨S8x12288, .f32⟩
  | 60 => ⟨S16x2x256, .f32⟩
  | 61 => ⟨S3x2x256, .f32⟩
  | 62 => ⟨S2x256x3, .f32⟩
  | 63 => ⟨S2x768, .f32⟩
  | 64 => ⟨S12x2x256, .f32⟩
  | 65 => ⟨S3x4x2x256, .f32⟩
  | 66 => ⟨S4x2x256x3, .f32⟩
  | 67 => ⟨S4x2x768, .f32⟩
  | 68 => ⟨S_, .i32⟩
  | 69 => ⟨S1, .i32⟩
  | 70 => ⟨S_, .i32⟩
  | 71 => ⟨S1, .i32⟩
  | 72 => ⟨S2, .i32⟩
  | 73 => ⟨S8x12288, .f32⟩
  | 74 => ⟨S1x2x768, .f32⟩
  | 75 => ⟨S2x768, .f32⟩
  | 76 => ⟨S_, .i32⟩
  | 77 => ⟨S1, .i32⟩
  | 78 => ⟨S_, .i32⟩
  | 79 => ⟨S1, .i32⟩
  | 80 => ⟨S2, .i32⟩
  | 81 => ⟨S8x12288, .f32⟩
  | 82 => ⟨S1x2x768, .f32⟩
  | 83 => ⟨S2x768, .f32⟩
  | 84 => ⟨S_, .i32⟩
  | 85 => ⟨S1, .i32⟩
  | 86 => ⟨S_, .i32⟩
  | 87 => ⟨S1, .i32⟩
  | 88 => ⟨S2, .i32⟩
  | 89 => ⟨S8x12288, .f32⟩
  | 90 => ⟨S1x2x768, .f32⟩
  | 91 => ⟨S2x768, .f32⟩
  | 92 => ⟨S_, .i32⟩
  | 93 => ⟨S1, .i32⟩
  | 94 => ⟨S_, .i32⟩
  | 95 => ⟨S1, .i32⟩
  | 96 => ⟨S2, .i32⟩
  | 97 => ⟨S8x12288, .f32⟩
  | 98 => ⟨S1x2x768, .f32⟩
  | 99 => ⟨S2x768, .f32⟩
  | 100 => ⟨S_, .i32⟩
  | 101 => ⟨S1, .i32⟩
  | 102 => ⟨S_, .i32⟩
  | 103 => ⟨S1, .i32⟩
  | 104 => ⟨S2, .i32⟩
  | 105 => ⟨S8x12288, .f32⟩
  | 106 => ⟨S_, .f32⟩
  | 107 => ⟨S8x12288, .f32⟩
  | 108 => ⟨S_, .f32⟩
  | 109 => ⟨S8x12288, .f32⟩
  | 110 => ⟨S_, .f32⟩
  | 111 => ⟨S8x12288, .f32⟩
  | 112 => ⟨S_, .f32⟩
  | 113 => ⟨S8x12288, .f32⟩
  | 114 => ⟨S12288x1, .f32⟩
  | 115 => ⟨S12288, .f32⟩
  | 116 => ⟨S2x12288, .f32⟩
  | 117 => ⟨S_, .i32⟩
  | 118 => ⟨S1, .i32⟩
  | 119 => ⟨S8x12288, .f32⟩
  | 120 => ⟨S12288x1, .f32⟩
  | 121 => ⟨S12288, .f32⟩
  | 122 => ⟨S2x12288, .f32⟩
  | 123 => ⟨S_, .i32⟩
  | 124 => ⟨S1, .i32⟩
  | 125 => ⟨S8x12288, .f32⟩
  | 126 => ⟨S12288x1, .f32⟩
  | 127 => ⟨S12288, .f32⟩
  | _ => ⟨S2x256x64x64, .f32⟩

abbrev hbmTy0_2 (i : Nat) : BufTy := match i % 128 with
  | 0 => ⟨S2x12288, .f32⟩
  | 1 => ⟨S_, .i32⟩
  | 2 => ⟨S1, .i32⟩
  | 3 => ⟨S8x12288, .f32⟩
  | 4 => ⟨S12288x1, .f32⟩
  | 5 => ⟨S12288, .f32⟩
  | 6 => ⟨S2x12288, .f32⟩
  | 7 => ⟨S_, .i32⟩
  | 8 => ⟨S1, .i32⟩
  | 9 => ⟨S8x12288, .f32⟩
  | 10 => ⟨S3072x1, .f32⟩
  | 11 => ⟨S3072, .f32⟩
  | 12 => ⟨S2x3072, .f32⟩
  | 13 => ⟨S_, .i32⟩
  | 14 => ⟨S1, .i32⟩
  | 15 => ⟨S_, .i32⟩
  | 16 => ⟨S1, .i32⟩
  | 17 => ⟨S2, .i32⟩
  | 18 => ⟨S8x12288, .f32⟩
  | 19 => ⟨S3072x1, .f32⟩
  | 20 => ⟨S3072, .f32⟩
  | 21 => ⟨S2x3072, .f32⟩
  | 22 => ⟨S_, .i32⟩
  | 23 => ⟨S1, .i32⟩
  | 24 => ⟨S_, .i32⟩
  | 25 => ⟨S1, .i32⟩
  | 26 => ⟨S2, .i32⟩
  | 27 => ⟨S8x12288, .f32⟩
  | 28 => ⟨S3072x1, .f32⟩
  | 29 => ⟨S3072, .f32⟩
  | 30 => ⟨S2x3072, .f32⟩
  | 31 => ⟨S_, .i32⟩
  | 32 => ⟨S1, .i32⟩
  | 33 => ⟨S_, .i32⟩
  | 34 => ⟨S1, .i32⟩
  | 35 => ⟨S2, .i32⟩
  | 36 => ⟨S8x12288, .f32⟩
  | 37 => ⟨S3072x1, .f32⟩
  | 38 => ⟨S3072, .f32⟩
  | 39 => ⟨S2x3072, .f32⟩
  | 40 => ⟨S_, .i32⟩
  | 41 => ⟨S1, .i32⟩
  | 42 => ⟨S_, .i32⟩
  | 43 => ⟨S1, .i32⟩
  | 44 => ⟨S2, .i32⟩
  | 45 => ⟨S8x12288, .f32⟩
  | 46 => ⟨S768x1, .f32⟩
  | 47 => ⟨S768, .f32⟩
  | 48 => ⟨S2x768, .f32⟩
  | 49 => ⟨S_, .i32⟩
  | 50 => ⟨S1, .i32⟩
  | 51 => ⟨S_, .i32⟩
  | 52 => ⟨S1, .i32⟩
  | 53 => ⟨S2, .i32⟩
  | 54 => ⟨S8x12288, .f32⟩
  | 55 => ⟨S768x1, .f32⟩
  | 56 => ⟨S768, .f32⟩
  | 57 => ⟨S2x768, .f32⟩
  | 58 => ⟨S_, .i32⟩
  | 59 => ⟨S1, .i32⟩
  | 60 => ⟨S_, .i32⟩
  | 61 => ⟨S1, .i32⟩
  | 62 => ⟨S2, .i32⟩
  | 63 => ⟨S8x12288, .f32⟩
  | 64 => ⟨S768x1, .f32⟩
  | 65 => ⟨S768, .f32⟩
  | 66 => ⟨S2x768, .f32⟩
  | 67 => ⟨S_, .i32⟩
  | 68 => ⟨S1, .i32⟩
  | 69 => ⟨S_, .i32⟩
  | 70 => ⟨S1, .i32⟩
  | 71 => ⟨S2, .i32⟩
  | 72 => ⟨S8x12288, .f32⟩
  | 73 => ⟨S768x1, .f32⟩
  | 74 => ⟨S768, .f32⟩
  | 75 => ⟨S2x768, .f32⟩
  | 76 => ⟨S_, .i32⟩
  | 77 => ⟨S1, .i32⟩
  | 78 => ⟨S_, .i32⟩
  | 79 => ⟨S1, .i32⟩
  | 80 => ⟨S2, .i32⟩
  | 81 => ⟨S8x12288, .f32⟩
  | 82 => ⟨S2x1024x8, .f32⟩
  | 83 => ⟨S2x999x4, .f32⟩
  | _ => ⟨S2x256x64x64, .f32⟩

abbrev hbmTy (i : Nat) : BufTy := match i / 128 with
  | 0 => hbmTy0_0 i
  | 1 => hbmTy0_1 i
  | 2 => hbmTy0_2 i
  | _ => ⟨S2x256x64x64, .f32⟩

abbrev bufTy : (tb : Table) → Fin (tcTables nBuf tb) → BufTy
  | .hbm, ⟨i, _⟩ => hbmTy i
  | .local _ .vmem, ⟨0, _⟩ => ⟨S2304x512, .f32⟩
  | .local _ .vmem, ⟨1, _⟩ => ⟨S2304x512, .f32⟩
  | .local _ .vmem, ⟨2, _⟩ => ⟨S256x2304, .f32⟩
  | .local _ .vmem, ⟨3, _⟩ => ⟨S16x256, .f32⟩
  | .local _ .vmem, ⟨4, _⟩ => ⟨S256x1, .f32⟩
  | .local _ .vmem, ⟨5, _⟩ => ⟨S16x1, .f32⟩
  | .local _ .vmem, ⟨6, _⟩ => ⟨S16x512, .f32⟩
  | .local _ .vmem, ⟨7, _⟩ => ⟨S16x512, .f32⟩
  | .local _ .vmem, ⟨8, _⟩ => ⟨S8x1, .i32⟩
  | .local _ .vmem, ⟨9, _⟩ => ⟨S8x12288, .f32⟩
  | .local _ .vmem, ⟨10, _⟩ => ⟨S8x12288, .f32⟩
  | .local _ .vmem, ⟨11, _⟩ => ⟨S8x12288, .f32⟩
  | .local _ .vmem, ⟨12, _⟩ => ⟨S8x12288, .f32⟩
  | .local _ .vmem, ⟨13, _⟩ => ⟨S8x12288, .f32⟩
  | .local _ .vmem, ⟨14, _⟩ => ⟨S8x12288, .f32⟩
  | .local _ .vmem, ⟨15, _⟩ => ⟨S8x12288, .f32⟩
  | .local _ .vmem, ⟨16, _⟩ => ⟨S8x12288, .f32⟩
  | .local _ .vmem, ⟨17, _⟩ => ⟨S8x12288, .f32⟩
  | .local _ .vmem, ⟨18, _⟩ => ⟨S2x1024x8, .f32⟩
  | .local _ .vmem, ⟨19, _⟩ => ⟨S8x12288, .f32⟩
  | .local _ .vmem, ⟨20, _⟩ => ⟨S8x12288, .f32⟩
  | .local _ .vmem, ⟨21, _⟩ => ⟨S8x12288, .f32⟩
  | .local _ .vmem, ⟨22, _⟩ => ⟨S8x12288, .f32⟩
  | .local _ .vmem, ⟨23, _⟩ => ⟨S8x12288, .f32⟩
  | .local _ .vmem, ⟨24, _⟩ => ⟨S8x12288, .f32⟩
  | .local _ .vmem, ⟨25, _⟩ => ⟨S8x12288, .f32⟩
  | .local _ .vmem, ⟨26, _⟩ => ⟨S8x1024, .f32⟩
  | .local _ .vmem, ⟨27, _⟩ => ⟨S8x1024, .f32⟩
  | .local _ .vmem, ⟨28, _⟩ => ⟨S8x1024, .f32⟩
  | .local _ .vmem, ⟨29, _⟩ => ⟨S8x1024, .f32⟩
  | .local _ .vmem, ⟨30, _⟩ => ⟨S8x1024, .f32⟩
  | _, _ => ⟨S2x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_2 : Ref sig .tc := ⟨.hbm, 59, rfl⟩
abbrev main_call2_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_c_3 : Ref sig .tc := ⟨.hbm, 90, rfl⟩
abbrev main_call3_v0 : Ref sig .tc := ⟨.hbm, 91, rfl⟩
abbrev main_v71 : Ref sig .tc := ⟨.hbm, 92, rfl⟩
abbrev main_v72 : Ref sig .tc := ⟨.hbm, 93, rfl⟩
abbrev main_c_4 : Ref sig .tc := ⟨.hbm, 94, rfl⟩
abbrev main_call4_v0 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst : Ref sig .tc := ⟨.hbm, 101, rfl⟩
abbrev main_v78 : Ref sig .tc := ⟨.hbm, 102, rfl⟩
abbrev main_cst_5 : Ref sig .tc := ⟨.hbm, 103, rfl⟩
abbrev main_v79 : Ref sig .tc := ⟨.hbm, 104, rfl⟩
abbrev main_cst_6 : Ref sig .tc := ⟨.hbm, 105, rfl⟩
abbrev main_v80 : Ref sig .tc := ⟨.hbm, 106, rfl⟩
abbrev main_cst_7 : Ref sig .tc := ⟨.hbm, 107, rfl⟩
abbrev main_v81 : Ref sig .tc := ⟨.hbm, 108, rfl⟩
abbrev main_cst_8 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_9 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_10 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_11 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_12 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_c_13 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_c_14 : Ref sig .tc := ⟨.hbm, 150, rfl⟩
abbrev main_v117 : Ref sig .tc := ⟨.hbm, 151, rfl⟩
abbrev main_c_15 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_16 : Ref sig .tc := ⟨.hbm, 158, rfl⟩
abbrev main_v123 : Ref sig .tc := ⟨.hbm, 159, rfl⟩
abbrev main_c_17 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_c_18 : Ref sig .tc := ⟨.hbm, 166, rfl⟩
abbrev main_v129 : Ref sig .tc := ⟨.hbm, 167, rfl⟩
abbrev main_c_19 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_c_20 : Ref sig .tc := ⟨.hbm, 174, rfl⟩
abbrev main_v135 : Ref sig .tc := ⟨.hbm, 175, rfl⟩
abbrev main_c_21 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_c_22 : Ref sig .tc := ⟨.hbm, 182, rfl⟩
abbrev main_v141 : Ref sig .tc := ⟨.hbm, 183, rfl⟩
abbrev main_c_23 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_c_24 : Ref sig .tc := ⟨.hbm, 196, rfl⟩
abbrev main_v153 : Ref sig .tc := ⟨.hbm, 197, rfl⟩
abbrev main_c_25 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_c_26 : Ref sig .tc := ⟨.hbm, 204, rfl⟩
abbrev main_v159 : Ref sig .tc := ⟨.hbm, 205, rfl⟩
abbrev main_c_27 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_c_28 : Ref sig .tc := ⟨.hbm, 212, rfl⟩
abbrev main_v165 : Ref sig .tc := ⟨.hbm, 213, rfl⟩
abbrev main_c_29 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_c_30 : Ref sig .tc := ⟨.hbm, 220, rfl⟩
abbrev main_v171 : Ref sig .tc := ⟨.hbm, 221, rfl⟩
abbrev main_c_31 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_c_32 : Ref sig .tc := ⟨.hbm, 228, rfl⟩
abbrev main_v177 : Ref sig .tc := ⟨.hbm, 229, rfl⟩
abbrev main_c_33 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_34 : Ref sig .tc := ⟨.hbm, 234, rfl⟩
abbrev main_v181 : Ref sig .tc := ⟨.hbm, 235, rfl⟩
abbrev main_cst_35 : Ref sig .tc := ⟨.hbm, 236, rfl⟩
abbrev main_v182 : Ref sig .tc := ⟨.hbm, 237, rfl⟩
abbrev main_cst_36 : Ref sig .tc := ⟨.hbm, 238, rfl⟩
abbrev main_v183 : Ref sig .tc := ⟨.hbm, 239, rfl⟩
abbrev main_cst_37 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_c_38 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_c_39 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_c_40 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_c_41 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_c_42 : Ref sig .tc := ⟨.hbm, 269, rfl⟩
abbrev main_v208 : Ref sig .tc := ⟨.hbm, 270, rfl⟩
abbrev main_c_43 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_c_44 : Ref sig .tc := ⟨.hbm, 278, rfl⟩
abbrev main_v215 : Ref sig .tc := ⟨.hbm, 279, rfl⟩
abbrev main_c_45 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_c_46 : Ref sig .tc := ⟨.hbm, 287, rfl⟩
abbrev main_v222 : Ref sig .tc := ⟨.hbm, 288, rfl⟩
abbrev main_c_47 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_c_48 : Ref sig .tc := ⟨.hbm, 296, rfl⟩
abbrev main_v229 : Ref sig .tc := ⟨.hbm, 297, rfl⟩
abbrev main_c_49 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_c_50 : Ref sig .tc := ⟨.hbm, 305, rfl⟩
abbrev main_v236 : Ref sig .tc := ⟨.hbm, 306, rfl⟩
abbrev main_c_51 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_c_52 : Ref sig .tc := ⟨.hbm, 314, rfl⟩
abbrev main_v243 : Ref sig .tc := ⟨.hbm, 315, rfl⟩
abbrev main_c_53 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_c_54 : Ref sig .tc := ⟨.hbm, 323, rfl⟩
abbrev main_v250 : Ref sig .tc := ⟨.hbm, 324, rfl⟩
abbrev main_c_55 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_c_56 : Ref sig .tc := ⟨.hbm, 332, rfl⟩
abbrev main_v257 : Ref sig .tc := ⟨.hbm, 333, rfl⟩
abbrev main_c_57 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc1_scratch4 : Ref sig .tc := ⟨.vmem, 23, rfl⟩
abbrev cc1_scratch5 : Ref sig .tc := ⟨.vmem, 24, rfl⟩
abbrev cc1_scratch6 : Ref sig .tc := ⟨.vmem, 25, rfl⟩
abbrev cc1_scratch7 : Ref sig .tc := ⟨.vmem, 26, rfl⟩
abbrev cc1_scratch8 : Ref sig .tc := ⟨.vmem, 27, rfl⟩
abbrev cc1_scratch9 : Ref sig .tc := ⟨.vmem, 28, rfl⟩
abbrev cc1_scratch10 : Ref sig .tc := ⟨.vmem, 29, rfl⟩
abbrev cc1_scratch11 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

@[reducible] def k1_t1_loop : Scf.Loop 32 :=
  let c0_i32 : BitVec 32 := 0#32
  let c333_i32 : BitVec 32 := 333#32
  let v108 : BitVec 32 := Scalar.addi c0_i32 c333_i32
  let c1_i32 : BitVec 32 := 1#32
  ⟨c0_i32, v108, c1_i32⟩
abbrev stage1_0 : Fin 1 → Memref sig .tc .vmem S8x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x12288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x12288 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x12288 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x12288 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x12288 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x12288 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x12288 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x12288 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x12288 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S2x1024x8 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== Kernel2.lean ====
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S_ : Shape := ⟨0, ![]⟩
abbrev S2x256x66x66 : Shape := ⟨4, ![2, 256, 66, 66]⟩
abbrev S2x1x256x64x64 : Shape := ⟨5, ![2, 1, 256, 64, 64]⟩
abbrev S2x9x256x64x64 : Shape := ⟨5, ![2, 9, 256, 64, 64]⟩
abbrev S2x2304x4096 : Shape := ⟨3, ![2, 2304, 4096]⟩
abbrev S2x256x34x34 : Shape := ⟨4, ![2, 256, 34, 34]⟩
abbrev S2x1x256x32x32 : Shape := ⟨5, ![2, 1, 256, 32, 32]⟩
abbrev S2x9x256x32x32 : Shape := ⟨5, ![2, 9, 256, 32, 32]⟩
abbrev S2x2304x1024 : Shape := ⟨3, ![2, 2304, 1024]⟩
abbrev S2x256x18x18 : Shape := ⟨4, ![2, 256, 18, 18]⟩
abbrev S2x1x256x16x16 : Shape := ⟨5, ![2, 1, 256, 16, 16]⟩
abbrev S2x9x256x16x16 : Shape := ⟨5, ![2, 9, 256, 16, 16]⟩
abbrev S2x2304x256 : Shape := ⟨3, ![2, 2304, 256]⟩
abbrev S2x2304x5376 : Shape := ⟨3, ![2, 2304, 5376]⟩
abbrev S2304x2x5376 : Shape := ⟨3, ![2304, 2, 5376]⟩
abbrev S2304x10752 : Shape := ⟨2, ![2304, 10752]⟩
abbrev S256x3x3x256 : Shape := ⟨4, ![256, 3, 3, 256]⟩
abbrev S256x2304 : Shape := ⟨2, ![256, 2304]⟩
abbrev S3x256 : Shape := ⟨2, ![3, 256]⟩
abbrev S12x256 : Shape := ⟨2, ![12, 256]⟩
abbrev S15x256 : Shape := ⟨2, ![15, 256]⟩
abbrev S16x256 : Shape := ⟨2, ![16, 256]⟩
abbrev S15 : Shape := ⟨1, ![15]⟩
abbrev S16 : Shape := ⟨1, ![16]⟩
abbrev S16x1 : Shape := ⟨2, ![16, 1]⟩
abbrev S256x1 : Shape := ⟨2, ![256, 1]⟩
abbrev S16x10752 : Shape := ⟨2, ![16, 10752]⟩
abbrev S2304x512 : Shape := ⟨2, ![2304, 512]⟩
abbrev S16x512 : Shape := ⟨2, ![16, 512]⟩
abbrev S256x512 : Shape := ⟨2, ![256, 512]⟩

abbrev nBuf : Space → Nat
  | .hbm => 96
  | .vmem => 8
  | .smem => 0
  | _ => 0

abbrev bufTy : (tb : Table) → Fin (tcTables nBuf tb) → BufTy
  | .hbm, ⟨0, _⟩ => ⟨S2x256x64x64, .f32⟩
  | .hbm, ⟨1, _⟩ => ⟨S2x256x32x32, .f32⟩
  | .hbm, ⟨2, _⟩ => ⟨S2x256x16x16, .f32⟩
  | .hbm, ⟨3, _⟩ => ⟨S256x256x3x3, .f32⟩
  | .hbm, ⟨4, _⟩ => ⟨S256, .f32⟩
  | .hbm, ⟨5, _⟩ => ⟨S3x256x1x1, .f32⟩
  | .hbm, ⟨6, _⟩ => ⟨S3, .f32⟩
  | .hbm, ⟨7, _⟩ => ⟨S12x256x1x1, .f32⟩
  | .hbm, ⟨8, _⟩ => ⟨S12, .f32⟩
  | .hbm, ⟨9, _⟩ => ⟨S_, .i32⟩
  | .hbm, ⟨10, _⟩ => ⟨S_, .f32⟩
  | .hbm, ⟨11, _⟩ => ⟨S2x256x66x66, .f32⟩
  | .hbm, ⟨12, _⟩ => ⟨S2x256x64x64, .f32⟩
  | .hbm, ⟨13, _⟩ => ⟨S2x256x64x64, .f32⟩
  | .hbm, ⟨14, _⟩ => ⟨S2x256x64x64, .f32⟩
  | .hbm, ⟨15, _⟩ => ⟨S2x256x64x64, .f32⟩
  | .hbm, ⟨16, _⟩ => ⟨S2x256x64x64, .f32⟩
  | .hbm, ⟨17, _⟩ => ⟨S2x256x64x64, .f32⟩
  | .hbm, ⟨18, _⟩ => ⟨S2x256x64x64, .f32⟩
  | .hbm, ⟨19, _⟩ => ⟨S2x256x64x64, .f32⟩
  | .hbm, ⟨20, _⟩ => ⟨S2x256x64x64, .f32⟩
  | .hbm, ⟨21, _⟩ => ⟨S2x1x256x64x64, .f32⟩
  | .hbm, ⟨22, _⟩ => ⟨S2x1x256x64x64, .f32⟩
  | .hbm, ⟨23, _⟩ => ⟨S2x1x256x64x64, .f32⟩
  | .hbm, ⟨24, _⟩ => ⟨S2x1x256x64x64, .f32⟩
  | .hbm, ⟨25, _⟩ => ⟨S2x1x256x64x64, .f32⟩
  | .hbm, ⟨26, _⟩ => ⟨S2x1x256x64x64, .f32⟩
  | .hbm, ⟨27, _⟩ => ⟨S2x1x256x64x64, .f32⟩
  | .hbm, ⟨28, _⟩ => ⟨S2x1x256x64x64, .f32⟩
  | .hbm, ⟨29, _⟩ => ⟨S2x1x256x64x64, .f32⟩
  | .hbm, ⟨30, _⟩ => ⟨S2x9x256x64x64, .f32⟩
  | .hbm, ⟨31, _⟩ => ⟨S2x2304x4096, .f32⟩
  | .hbm, ⟨32, _⟩ => ⟨S_, .i32⟩
  | .hbm, ⟨33, _⟩ => ⟨S_, .f32⟩
  | .hbm, ⟨34, _⟩ => ⟨S2x256x34x34, .f32⟩
  | .hbm, ⟨35, _⟩ => ⟨S2x256x32x32, .f32⟩
  | .hbm, ⟨36, _⟩ => ⟨S2x256x32x32, .f32⟩
  | .hbm, ⟨37, _⟩ => ⟨S2x256x32x32, .f32⟩
  | .hbm, ⟨38, _⟩ => ⟨S2x256x32x32, .f32⟩
  | .hbm, ⟨39, _⟩ => ⟨S2x256x32x32, .f32⟩
  | .hbm, ⟨40, _⟩ => ⟨S2x256x32x32, .f32⟩
  | .hbm, ⟨41, _⟩ => ⟨S2x256x32x32, .f32⟩
  | .hbm, ⟨42, _⟩ => ⟨S2x256x32x32, .f32⟩
  | .hbm, ⟨43, _⟩ => ⟨S2x256x32x32, .f32⟩
  | .hbm, ⟨44, _⟩ => ⟨S2x1x256x32x32, .f32⟩
  | .hbm, ⟨45, _⟩ => ⟨S2x1x256x32x32, .f32⟩
  | .hbm, ⟨46, _⟩ => ⟨S2x1x256x32x32, .f32⟩
  | .hbm, ⟨47, _⟩ => ⟨S2x1x256x32x32, .f32⟩
  | .hbm, ⟨48, _⟩ => ⟨S2x1x256x32x32, .f32⟩
  | .hbm, ⟨49, _⟩ => ⟨S2x1x256x32x32, .f32⟩
  | .hbm, ⟨50, _⟩ => ⟨S2x1x256x32x32, .f32⟩
  | .hbm, ⟨51, _⟩ => ⟨S2x1x256x32x32, .f32⟩
  | .hbm, ⟨52, _⟩ => ⟨S2x1x256x32x32, .f32⟩
  | .hbm, ⟨53, _⟩ => ⟨S2x9x256x32x32, .f32⟩
  | .hbm, ⟨54, _⟩ => ⟨S2x2304x1024, .f32⟩
  | .hbm, ⟨55, _⟩ => ⟨S_, .i32⟩
  | .hbm, ⟨56, _⟩ => ⟨S_, .f32⟩
  | .hbm, ⟨57, _⟩ => ⟨S2x256x18x18, .f32⟩
  | .hbm, ⟨58, _⟩ => ⟨S2x256x16x16, .f32⟩
  | .hbm, ⟨59, _⟩ => ⟨S2x256x16x16, .f32⟩
  | .hbm, ⟨60, _⟩ => ⟨S2x256x16x16, .f32⟩
  | .hbm, ⟨61, _⟩ => ⟨S2x256x16x16, .f32⟩
  | .hbm, ⟨62, _⟩ => ⟨S2x256x16x16, .f32⟩
  | .hbm, ⟨63, _⟩ => ⟨S2x256x16x16, .f32⟩
  | .hbm, ⟨64, _⟩ => ⟨S2x256x16x16, .f32⟩
  | .hbm, ⟨65, _⟩ => ⟨S2x256x16x16, .f32⟩
  | .hbm, ⟨66, _⟩ => ⟨S2x256x16x16, .f32⟩
  | .hbm, ⟨67, _⟩ => ⟨S2x1x256x16x16, .f32⟩
  | .hbm, ⟨68, _⟩ => ⟨S2x1x256x16x16, .f32⟩
  | .hbm, ⟨69, _⟩ => ⟨S2x1x256x16x16, .f32⟩
  | .hbm, ⟨70, _⟩ => ⟨S2x1x256x16x16, .f32⟩
  | .hbm, ⟨71, _⟩ => ⟨S2x1x256x16x16, .f32⟩
  | .hbm, ⟨72, _⟩ => ⟨S2x1x256x16x16, .f32⟩
  | .hbm, ⟨73, _⟩ => ⟨S2x1x256x16x16, .f32⟩
  | .hbm, ⟨74, _⟩ => ⟨S2x1x256x16x16, .f32⟩
  | .hbm, ⟨75, _⟩ => ⟨S2x1x256x16x16, .f32⟩
  | .hbm, ⟨76, _⟩ => ⟨S2x9x256x16x16, .f32⟩
  | .hbm, ⟨77, _⟩ => ⟨S2x2304x256, .f32⟩
  | .hbm, ⟨78, _⟩ => ⟨S2x2304x5376, .f32⟩
  | .hbm, ⟨79, _⟩ => ⟨S2304x2x5376, .f32⟩
  | .hbm, ⟨80, _⟩ => ⟨S2304x10752, .f32⟩
  | .hbm, ⟨81, _⟩ => ⟨S256x3x3x256, .f32⟩
  | .hbm, ⟨82, _⟩ => ⟨S256x2304, .f32⟩
  | .hbm, ⟨83, _⟩ => ⟨S3x256, .f32⟩
  | .hbm, ⟨84, _⟩ => ⟨S12x256, .f32⟩
  | .hbm, ⟨85, _⟩ => ⟨S15x256, .f32⟩
  | .hbm, ⟨86, _⟩ => ⟨S_, .i32⟩
  | .hbm, ⟨87, _⟩ => ⟨S_, .f32⟩
  | .hbm, ⟨88, _⟩ => ⟨S16x256, .f32⟩
  | .hbm, ⟨89, _⟩ => ⟨S15, .f32⟩
  | .hbm, ⟨90, _⟩ => ⟨S_, .i32⟩
  | .hbm, ⟨91, _⟩ => ⟨S_, .f32⟩
  | .hbm, ⟨92, _⟩ => ⟨S16, .f32⟩
  | .hbm, ⟨93, _⟩ => ⟨S16x1, .f32⟩
  | .hbm, ⟨94, _⟩ => ⟨S256x1, .f32⟩
  | .hbm, ⟨95, _⟩ => ⟨S16x10752, .f32⟩
  | .local _ .vmem, ⟨0, _⟩ => ⟨S2304x512, .f32⟩
  | .local _ .vmem, ⟨1, _⟩ => ⟨S2304x512, .f32⟩
  | .local _ .vmem, ⟨2, _⟩ => ⟨S256x2304, .f32⟩
  | .local _ .vmem, ⟨3, _⟩ => ⟨S16x256, .f32⟩
  | .local _ .vmem, ⟨4, _⟩ => ⟨S256x1, .f32⟩
  | .local _ .vmem, ⟨5, _⟩ => ⟨S16x1, .f32⟩
  | .local _ .vmem, ⟨6, _⟩ => ⟨S16x512, .f32⟩
  | .local _ .vmem, ⟨7, _⟩ => ⟨S16x512, .f32⟩
  | _, _ => ⟨S2x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_0 : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_1 : Ref sig .tc := ⟨.hbm, 55, rfl⟩
abbrev main_call2_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_c_2 : Ref sig .tc := ⟨.hbm, 86, rfl⟩
abbrev main_call3_v0 : Ref sig .tc := ⟨.hbm, 87, rfl⟩
abbrev main_v71 : Ref sig .tc := ⟨.hbm, 88, rfl⟩
abbrev main_v72 : Ref sig .tc := ⟨.hbm, 89, rfl⟩
abbrev main_c_3 : Ref sig .tc := ⟨.hbm, 90, rfl⟩
abbrev main_call4_v0 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S_ : Shape := ⟨0, ![]⟩
abbrev S2x256x66x66 : Shape := ⟨4, ![2, 256, 66, 66]⟩
abbrev S256x256x1x1 : Shape := ⟨4, ![256, 256, 1, 1]⟩
abbrev S256x256 : Shape := ⟨2, ![256, 256]⟩
abbrev S2x64x64x256 : Shape := ⟨4, ![2, 64, 64, 256]⟩
abbrev S1x256x1x1 : Shape := ⟨4, ![1, 256, 1, 1]⟩
abbrev S3x256 : Shape := ⟨2, ![3, 256]⟩
abbrev S2x64x64x3 : Shape := ⟨4, ![2, 64, 64, 3]⟩
abbrev S2x3x64x64 : Shape := ⟨4, ![2, 3, 64, 64]⟩
abbrev S1x3x1x1 : Shape := ⟨4, ![1, 3, 1, 1]⟩
abbrev S12x256 : Shape := ⟨2, ![12, 256]⟩
abbrev S2x64x64x12 : Shape := ⟨4, ![2, 64, 64, 12]⟩
abbrev S2x12x64x64 : Shape := ⟨4, ![2, 12, 64, 64]⟩
abbrev S1x12x1x1 : Shape := ⟨4, ![1, 12, 1, 1]⟩
abbrev S2x15x64x64 : Shape := ⟨4, ![2, 15, 64, 64]⟩
abbrev S2x15x4096 : Shape := ⟨3, ![2, 15, 4096]⟩
abbrev S2x256x34x34 : Shape := ⟨4, ![2, 256, 34, 34]⟩
abbrev S2x32x32x256 : Shape := ⟨4, ![2, 32, 32, 256]⟩
abbrev S2x32x32x3 : Shape := ⟨4, ![2, 32, 32, 3]⟩
abbrev S2x3x32x32 : Shape := ⟨4, ![2, 3, 32, 32]⟩
abbrev S2x32x32x12 : Shape := ⟨4, ![2, 32, 32, 12]⟩
abbrev S2x12x32x32 : Shape := ⟨4, ![2, 12, 32, 32]⟩
abbrev S2x15x32x32 : Shape := ⟨4, ![2, 15, 32, 32]⟩
abbrev S2x15x1024 : Shape := ⟨3, ![2, 15, 1024]⟩
abbrev S2x256x18x18 : Shape := ⟨4, ![2, 256, 18, 18]⟩
abbrev S2x16x16x256 : Shape := ⟨4, ![2, 16, 16, 256]⟩
abbrev S2x16x16x3 : Shape := ⟨4, ![2, 16, 16, 3]⟩
abbrev S2x3x16x16 : Shape := ⟨4, ![2, 3, 16, 16]⟩
abbrev S2x16x16x12 : Shape := ⟨4, ![2, 16, 16, 12]⟩
abbrev S2x12x16x16 : Shape := ⟨4, ![2, 12, 16, 16]⟩
abbrev S2x15x16x16 : Shape := ⟨4, ![2, 15, 16, 16]⟩
abbrev S2x15x256 : Shape := ⟨3, ![2, 15, 256]⟩
abbrev S2x15x5376 : Shape := ⟨3, ![2, 15, 5376]⟩
abbrev S15x2x5376 : Shape := ⟨3, ![15, 2, 5376]⟩
abbrev S15x10752 : Shape := ⟨2, ![15, 10752]⟩
abbrev S16x10752 : Shape := ⟨2, ![16, 10752]⟩

abbrev nBuf : Space → Nat
  | .hbm => 243
  | .vmem => 0
  | .smem => 0
  | _ => 0

abbrev hbmTy0_0 (i : Nat) : BufTy := match i % 128 with
  | 0 => ⟨S2x256x64x64, .f32⟩
  | 1 => ⟨S2x256x32x32, .f32⟩
  | 2 => ⟨S2x256x16x16, .f32⟩
  | 3 => ⟨S256x256x3x3, .f32⟩
  | 4 => ⟨S256, .f32⟩
  | 5 => ⟨S3x256x1x1, .f32⟩
  | 6 => ⟨S3, .f32⟩
  | 7 => ⟨S12x256x1x1, .f32⟩
  | 8 => ⟨S12, .f32⟩
  | 9 => ⟨S_, .i32⟩
  | 10 => ⟨S_, .f32⟩
  | 11 => ⟨S2x256x66x66, .f32⟩
  | 12 => ⟨S256x256x1x1, .f32⟩
  | 13 => ⟨S256x256, .f32⟩
  | 14 => ⟨S2x256x64x64, .f32⟩
  | 15 => ⟨S2x64x64x256, .f32⟩
  | 16 => ⟨S2x256x64x64, .f32⟩
  | 17 => ⟨S256x256x1x1, .f32⟩
  | 18 => ⟨S256x256, .f32⟩
  | 19 => ⟨S2x256x64x64, .f32⟩
  | 20 => ⟨S2x64x64x256, .f32⟩
  | 21 => ⟨S2x256x64x64, .f32⟩
  | 22 => ⟨S2x256x64x64, .f32⟩
  | 23 => ⟨S256x256x1x1, .f32⟩
  | 24 => ⟨S256x256, .f32⟩
  | 25 => ⟨S2x256x64x64, .f32⟩
  | 26 => ⟨S2x64x64x256, .f32⟩
  | 27 => ⟨S2x256x64x64, .f32⟩
  | 28 => ⟨S2x256x64x64, .f32⟩
  | 29 => ⟨S256x256x1x1, .f32⟩
  | 30 => ⟨S256x256, .f32⟩
  | 31 => ⟨S2x256x64x64, .f32⟩
  | 32 => ⟨S2x64x64x256, .f32⟩
  | 33 => ⟨S2x256x64x64, .f32⟩
  | 34 => ⟨S2x256x64x64, .f32⟩
  | 35 => ⟨S256x256x1x1, .f32⟩
  | 36 => ⟨S256x256, .f32⟩
  | 37 => ⟨S2x256x64x64, .f32⟩
  | 38 => ⟨S2x64x64x256, .f32⟩
  | 39 => ⟨S2x256x64x64, .f32⟩
  | 40 => ⟨S2x256x64x64, .f32⟩
  | 41 => ⟨S256x256x1x1, .f32⟩
  | 42 => ⟨S256x256, .f32⟩
  | 43 => ⟨S2x256x64x64, .f32⟩
  | 44 => ⟨S2x64x64x256, .f32⟩
  | 45 => ⟨S2x256x64x64, .f32⟩
  | 46 => ⟨S2x256x64x64, .f32⟩
  | 47 => ⟨S256x256x1x1, .f32⟩
  | 48 => ⟨S256x256, .f32⟩
  | 49 => ⟨S2x256x64x64, .f32⟩
  | 50 => ⟨S2x64x64x256, .f32⟩
  | 51 => ⟨S2x256x64x64, .f32⟩
  | 52 => ⟨S2x256x64x64, .f32⟩
  | 53 => ⟨S256x256x1x1, .f32⟩
  | 54 => ⟨S256x256, .f32⟩
  | 55 => ⟨S2x256x64x64, .f32⟩
  | 56 => ⟨S2x64x64x256, .f32⟩
  | 57 => ⟨S2x256x64x64, .f32⟩
  | 58 => ⟨S2x256x64x64, .f32⟩
  | 59 => ⟨S256x256x1x1, .f32⟩
  | 60 => ⟨S256x256, .f32⟩
  | 61 => ⟨S2x256x64x64, .f32⟩
  | 62 => ⟨S2x64x64x256, .f32⟩
  | 63 => ⟨S2x256x64x64, .f32⟩
  | 64 => ⟨S2x256x64x64, .f32⟩
  | 65 => ⟨S1x256x1x1, .f32⟩
  | 66 => ⟨S2x256x64x64, .f32⟩
  | 67 => ⟨S2x256x64x64, .f32⟩
  | 68 => ⟨S_, .f32⟩
  | 69 => ⟨S2x256x64x64, .f32⟩
  | 70 => ⟨S2x256x64x64, .f32⟩
  | 71 => ⟨S3x256, .f32⟩
  | 72 => ⟨S2x64x64x3, .f32⟩
  | 73 => ⟨S2x3x64x64, .f32⟩
  | 74 => ⟨S1x3x1x1, .f32⟩
  | 75 => ⟨S2x3x64x64, .f32⟩
  | 76 => ⟨S2x3x64x64, .f32⟩
  | 77 => ⟨S12x256, .f32⟩
  | 78 => ⟨S2x64x64x12, .f32⟩
  | 79 => ⟨S2x12x64x64, .f32⟩
  | 80 => ⟨S1x12x1x1, .f32⟩
  | 81 => ⟨S2x12x64x64, .f32⟩
  | 82 => ⟨S2x12x64x64, .f32⟩
  | 83 => ⟨S2x15x64x64, .f32⟩
  | 84 => ⟨S2x15x4096, .f32⟩
  | 85 => ⟨S_, .i32⟩
  | 86 => ⟨S_, .f32⟩
  | 87 => ⟨S2x256x34x34, .f32⟩
  | 88 => ⟨S256x256x1x1, .f32⟩
  | 89 => ⟨S256x256, .f32⟩
  | 90 => ⟨S2x256x32x32, .f32⟩
  | 91 => ⟨S2x32x32x256, .f32⟩
  | 92 => ⟨S2x256x32x32, .f32⟩
  | 93 => ⟨S256x256x1x1, .f32⟩
  | 94 => ⟨S256x256, .f32⟩
  | 95 => ⟨S2x256x32x32, .f32⟩
  | 96 => ⟨S2x32x32x256, .f32⟩
  | 97 => ⟨S2x256x32x32, .f32⟩
  | 98 => ⟨S2x256x32x32, .f32⟩
  | 99 => ⟨S256x256x1x1, .f32⟩
  | 100 => ⟨S256x256, .f32⟩
  | 101 => ⟨S2x256x32x32, .f32⟩
  | 102 => ⟨S2x32x32x256, .f32⟩
  | 103 => ⟨S2x256x32x32, .f32⟩
  | 104 => ⟨S2x256x32x32, .f32⟩
  | 105 => ⟨S256x256x1x1, .f32⟩
  | 106 => ⟨S256x256, .f32⟩
  | 107 => ⟨S2x256x32x32, .f32⟩
  | 108 => ⟨S2x32x32x256, .f32⟩
  | 109 => ⟨S2x256x32x32, .f32⟩
  | 110 => ⟨S2x256x32x32, .f32⟩
  | 111 => ⟨S256x256x1x1, .f32⟩
  | 112 => ⟨S256x256, .f32⟩
  | 113 => ⟨S2x256x32x32, .f32⟩
  | 114 => ⟨S2x32x32x256, .f32⟩
  | 115 => ⟨S2x256x32x32, .f32⟩
  | 116 => ⟨S2x256x32x32, .f32⟩
  | 117 => ⟨S256x256x1x1, .f32⟩
  | 118 => ⟨S256x256, .f32⟩
  | 119 => ⟨S2x256x32x32, .f32⟩
  | 120 => ⟨S2x32x32x256, .f32⟩
  | 121 => ⟨S2x256x32x32, .f32⟩
  | 122 => ⟨S2x256x32x32, .f32⟩
  | 123 => ⟨S256x256x1x1, .f32⟩
  | 124 => ⟨S256x256, .f32⟩
  | 125 => ⟨S2x256x32x32, .f32⟩
  | 126 => ⟨S2x32x32x256, .f32⟩
  | 127 => ⟨S2x256x32x32, .f32⟩
  | _ => ⟨S2x256x64x64, .f32⟩

abbrev hbmTy0_1 (i : Nat) : BufTy := match i % 128 with
  | 0 => ⟨S2x256x32x32, .f32⟩
  | 1 => ⟨S256x256x1x1, .f32⟩
  | 2 => ⟨S256x256, .f32⟩
  | 3 => ⟨S2x256x32x32, .f32⟩
  | 4 => ⟨S2x32x32x256, .f32⟩
  | 5 => ⟨S2x256x32x32, .f32⟩
  | 6 => ⟨S2x256x32x32, .f32⟩
  | 7 => ⟨S256x256x1x1, .f32⟩
  | 8 => ⟨S256x256, .f32⟩
  | 9 => ⟨S2x256x32x32, .f32⟩
  | 10 => ⟨S2x32x32x256, .f32⟩
  | 11 => ⟨S2x256x32x32, .f32⟩
  | 12 => ⟨S2x256x32x32, .f32⟩
  | 13 => ⟨S1x256x1x1, .f32⟩
  | 14 => ⟨S2x256x32x32, .f32⟩
  | 15 => ⟨S2x256x32x32, .f32⟩
  | 16 => ⟨S_, .f32⟩
  | 17 => ⟨S2x256x32x32, .f32⟩
  | 18 => ⟨S2x256x32x32, .f32⟩
  | 19 => ⟨S3x256, .f32⟩
  | 20 => ⟨S2x32x32x3, .f32⟩
  | 21 => ⟨S2x3x32x32, .f32⟩
  | 22 => ⟨S1x3x1x1, .f32⟩
  | 23 => ⟨S2x3x32x32, .f32⟩
  | 24 => ⟨S2x3x32x32, .f32⟩
  | 25 => ⟨S12x256, .f32⟩
  | 26 => ⟨S2x32x32x12, .f32⟩
  | 27 => ⟨S2x12x32x32, .f32⟩
  | 28 => ⟨S1x12x1x1, .f32⟩
  | 29 => ⟨S2x12x32x32, .f32⟩
  | 30 => ⟨S2x12x32x32, .f32⟩
  | 31 => ⟨S2x15x32x32, .f32⟩
  | 32 => ⟨S2x15x1024, .f32⟩
  | 33 => ⟨S_, .i32⟩
  | 34 => ⟨S_, .f32⟩
  | 35 => ⟨S2x256x18x18, .f32⟩
  | 36 => ⟨S256x256x1x1, .f32⟩
  | 37 => ⟨S256x256, .f32⟩
  | 38 => ⟨S2x256x16x16, .f32⟩
  | 39 => ⟨S2x16x16x256, .f32⟩
  | 40 => ⟨S2x256x16x16, .f32⟩
  | 41 => ⟨S256x256x1x1, .f32⟩
  | 42 => ⟨S256x256, .f32⟩
  | 43 => ⟨S2x256x16x16, .f32⟩
  | 44 => ⟨S2x16x16x256, .f32⟩
  | 45 => ⟨S2x256x16x16, .f32⟩
  | 46 => ⟨S2x256x16x16, .f32⟩
  | 47 => ⟨S256x256x1x1, .f32⟩
  | 48 => ⟨S256x256, .f32⟩
  | 49 => ⟨S2x256x16x16, .f32⟩
  | 50 => ⟨S2x16x16x256, .f32⟩
  | 51 => ⟨S2x256x16x16, .f32⟩
  | 52 => ⟨S2x256x16x16, .f32⟩
  | 53 => ⟨S256x256x1x1, .f32⟩
  | 54 => ⟨S256x256, .f32⟩
  | 55 => ⟨S2x256x16x16, .f32⟩
  | 56 => ⟨S2x16x16x256, .f32⟩
  | 57 => ⟨S2x256x16x16, .f32⟩
  | 58 => ⟨S2x256x16x16, .f32⟩
  | 59 => ⟨S256x256x1x1, .f32⟩
  | 60 => ⟨S256x256, .f32⟩
  | 61 => ⟨S2x256x16x16, .f32⟩
  | 62 => ⟨S2x16x16x256, .f32⟩
  | 63 => ⟨S2x256x16x16, .f32⟩
  | 64 => ⟨S2x256x16x16, .f32⟩
  | 65 => ⟨S256x256x1x1, .f32⟩
  | 66 => ⟨S256x256, .f32⟩
  | 67 => ⟨S2x256x16x16, .f32⟩
  | 68 => ⟨S2x16x16x256, .f32⟩
  | 69 => ⟨S2x256x16x16, .f32⟩
  | 70 => ⟨S2x256x16x16, .f32⟩
  | 71 => ⟨S256x256x1x1, .f32⟩
  | 72 => ⟨S256x256, .f32⟩
  | 73 => ⟨S2x256x16x16, .f32⟩
  | 74 => ⟨S2x16x16x256, .f32⟩
  | 75 => ⟨S2x256x16x16, .f32⟩
  | 76 => ⟨S2x256x16x16, .f32⟩
  | 77 => ⟨S256x256x1x1, .f32⟩
  | 78 => ⟨S256x256, .f32⟩
  | 79 => ⟨S2x256x16x16, .f32⟩
  | 80 => ⟨S2x16x16x256, .f32⟩
  | 81 => ⟨S2x256x16x16, .f32⟩
  | 82 => ⟨S2x256x16x16, .f32⟩
  | 83 => ⟨S256x256x1x1, .f32⟩
  | 84 => ⟨S256x256, .f32⟩
  | 85 => ⟨S2x256x16x16, .f32⟩
  | 86 => ⟨S2x16x16x256, .f32⟩
  | 87 => ⟨S2x256x16x16, .f32⟩
  | 88 => ⟨S2x256x16x16, .f32⟩
  | 89 => ⟨S1x256x1x1, .f32⟩
  | 90 => ⟨S2x256x16x16, .f32⟩
  | 91 => ⟨S2x256x16x16, .f32⟩
  | 92 => ⟨S_, .f32⟩
  | 93 => ⟨S2x256x16x16, .f32⟩
  | 94 => ⟨S2x256x16x16, .f32⟩
  | 95 => ⟨S3x256, .f32⟩
  | 96 => ⟨S2x16x16x3, .f32⟩
  | 97 => ⟨S2x3x16x16, .f32⟩
  | 98 => ⟨S1x3x1x1, .f32⟩
  | 99 => ⟨S2x3x16x16, .f32⟩
  | 100 => ⟨S2x3x16x16, .f32⟩
  | 101 => ⟨S12x256, .f32⟩
  | 102 => ⟨S2x16x16x12, .f32⟩
  | 103 => ⟨S2x12x16x16, .f32⟩
  | 104 => ⟨S1x12x1x1, .f32⟩
  | 105 => ⟨S2x12x16x16, .f32⟩
  | 106 => ⟨S2x12x16x16, .f32⟩
  | 107 => ⟨S2x15x16x16, .f32⟩
  | 108 => ⟨S2x15x256, .f32⟩
  | 109 => ⟨S2x15x5376, .f32⟩
  | 110 => ⟨S15x2x5376, .f32⟩
  | 111 => ⟨S15x10752, .f32⟩
  | 112 => ⟨S_, .i32⟩
  | 113 => ⟨S_, .f32⟩
  | 114 => ⟨S16x10752, .f32⟩
  | _ => ⟨S2x256x64x64, .f32⟩

abbrev hbmTy (i : Nat) : BufTy := match i / 128 with
  | 0 => hbmTy0_0 i
  | 1 => hbmTy0_1 i
  | _ => ⟨S2x256x64x64, .f32⟩

abbrev bufTy : (tb : Table) → Fin (tcTables nBuf tb) → BufTy
  | .hbm, ⟨i, _⟩ => hbmTy i
  | _, _ => ⟨S2x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_c_0 : Ref sig .tc := ⟨.hbm, 85, rfl⟩
abbrev main_call1_v0 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_cst_1 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_c_2 : Ref sig .tc := ⟨.hbm, 161, rfl⟩
abbrev main_call2_v0 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_cst_3 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_c_4 : Ref sig .tc := ⟨.hbm, 240, rfl⟩
abbrev main_call3_v0 : Ref sig .tc := ⟨.hbm, 241, rfl⟩
abbrev main_v222 : Ref sig .tc := ⟨.hbm, 242, rfl⟩

abbrev nD : Nat := 1
abbrev τ : Topo := Topo.v7x

variable {F : FTy → Type} [FloatOps F]
-- ==== Proof.HFinal.lean ====
module

public import proofs.«01_k».proof.Proof.Gen.Kernel2Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Heads

open Cert.Kernel2Ideal Cert.Kernel2Ideal.Gen

variable (m : (ℓ : Loc nD τ sig) → Buf (Elt Ideal) ℓ)

/-- The two dense layers of the head, written over the columns matrix: a rectified hidden layer and an output layer. -/
def HD (w2 : FVec Ideal S256x2304 .f32) (x9 : FVec Ideal S2304x10752 .f32) (cb : FVec Ideal S256x1 .f32)
    (wh : FVec Ideal S16x256 .f32) (hb : FVec Ideal S16x1 .f32) : FVec Ideal S16x10752 .f32 :=
  fun i => (∑ o : Fin 256, wh (ix2 (i 0) o) * max ((∑ k : Fin 2304, w2 (ix2 o k) * x9 (ix2 k (i 1))) + cb (ix2 o 0)) 0) + hb (ix2 (i 0) 0)

theorem idx : ∀ t : Fin cfg0.N, win0_0.index t = ![0, t.val] ∧ win0_1.index t = ![0, 0] ∧ win0_2.index t = ![0, 0]
    ∧ win0_3.index t = ![0, 0] ∧ win0_4.index t = ![0, 0] ∧ win0_5.index t = ![0, t.val] :=
  (by decide +kernel : ∀ t : Fin grid0.N, _)

theorem point (c : Dev nD) (t : Fin cfg0.N) (y) :
    k0_pay1 (iblk m c 1 t) (iblk m c 0 t) (iblk m c 3 t) (iblk m c 2 t) (iblk m c 4 t) y
    = HD (V m c main_v67) (V m c main_v65) (V m c main_v75) (V m c main_v71) (V m c main_v74) (((cfg0.win 5).blk t).view.emb y) := by
  pointwise [k0_pay1, HD]
  blk_point [iblk, idx t]

theorem final (c : Dev nD) : (dats m 0 c).arrAt 5 (cfgs 0).N
    = HD (V m c main_v67) (V m c main_v65) (V m c main_v75) (V m c main_v71) (V m c main_v74) := by
  refine (dats m 0 c).arrAt_eq_of_covers 5 _ (by decide +kernel) fun t _ y => ?_
  blk_simp
  rw [after0_5]; frame_out
  exact point m c t y

end Cert.Heads

end
-- ==== Proof.Cols.lean ====
module

public import proofs.«01_k».proof.Proof.Gen.Kernel2Ideal
public import Idealize.ShloMosaic.Lib.ValueIdx
public import Idealize.ShloMosaic.Lib.Pipeline.Value
public import Idealize.ShloMosaic.Lib.Pointwise
public import Idealize.ShloMosaic.PureOps.Ideal.Laws

@[expose] public section

set_option maxRecDepth 16384

noncomputable section

namespace Cert.Heads

open Cert.Kernel2Ideal Cert.Kernel2Ideal.Gen Idealize.ShloMosaic

/-- Nine unit pieces stacked along the second axis, read at one entry. -/
theorem stack9_at {n : Nat} (h : Shape.Concatenates [⟨5, ![2, 1, 256, n, n]⟩, ⟨5, ![2, 1, 256, n, n]⟩, ⟨5, ![2, 1, 256, n, n]⟩, ⟨5, ![2, 1, 256, n, n]⟩, ⟨5, ![2, 1, 256, n, n]⟩, ⟨5, ![2, 1, 256, n, n]⟩, ⟨5, ![2, 1, 256, n, n]⟩, ⟨5, ![2, 1, 256, n, n]⟩, ⟨5, ![2, 1, 256, n, n]⟩] ⟨5, ![2, 9, 256, n, n]⟩ 1)
    (f0 f1 f2 f3 f4 f5 f6 f7 f8 : (⟨5, ![2, 1, 256, n, n]⟩ : Shape).Idx → EReal) (b : Fin 2) (t : Fin 9) (c : Fin 256) (y x : Fin n) :
    concatenate ⟨5, ![2, 9, 256, n, n]⟩ 1 [⟨⟨5, ![2, 1, 256, n, n]⟩, f0⟩, ⟨⟨5, ![2, 1, 256, n, n]⟩, f1⟩, ⟨⟨5, ![2, 1, 256, n, n]⟩, f2⟩, ⟨⟨5, ![2, 1, 256, n, n]⟩, f3⟩, ⟨⟨5, ![2, 1, 256, n, n]⟩, f4⟩, ⟨⟨5, ![2, 1, 256, n, n]⟩, f5⟩, ⟨⟨5, ![2, 1, 256, n, n]⟩, f6⟩, ⟨⟨5, ![2, 1, 256, n, n]⟩, f7⟩, ⟨⟨5, ![2, 1, 256, n, n]⟩, f8⟩] h (ix5 b t c y x)
      = (match t with | 0 => f0 | 1 => f1 | 2 => f2 | 3 => f3 | 4 => f4 | 5 => f5 | 6 => f6 | 7 => f7 | 8 => f8) (ix5 b 0 c y x) := by
  match t with
  | ⟨0, _⟩ =>
    exact concatenate_apply_piece (t := ⟨5, ![2, 9, 256, n, n]⟩) 1 [⟨⟨5, ![2, 1, 256, n, n]⟩, f0⟩, ⟨⟨5, ![2, 1, 256, n, n]⟩, f1⟩, ⟨⟨5, ![2, 1, 256, n, n]⟩, f2⟩, ⟨⟨5, ![2, 1, 256, n, n]⟩, f3⟩, ⟨⟨5, ![2, 1, 256, n, n]⟩, f4⟩, ⟨⟨5, ![2, 1, 256, n, n]⟩, f5⟩, ⟨⟨5, ![2, 1, 256, n, n]⟩, f6⟩, ⟨⟨5, ![2, 1, 256, n, n]⟩, f7⟩, ⟨⟨5, ![2, 1, 256, n, n]⟩, f8⟩] h _ 0 (by simp) ⟨5, ![2, 1, 256, n, n]⟩ f0 rfl rfl 0 rfl (ix5 b 0 c y x) (fun a h => match a, h with
      | ⟨0, _⟩, _ => rfl
      | ⟨1, _⟩, h => absurd rfl h
      | ⟨2, _⟩, _ => rfl
      | ⟨3, _⟩, _ => rfl
      | ⟨4, _⟩, _ => rfl) rfl
  | ⟨1, _⟩ =>
    exact concatenate_apply_piece (t := ⟨5, ![2, 9, 256, n, n]⟩) 1 [⟨⟨5, ![2, 1, 256, n, n]⟩, f0⟩, ⟨⟨5, ![2, 1, 256, n, n]⟩, f1⟩, ⟨⟨5, ![2, 1, 256, n, n]⟩, f2⟩, ⟨⟨5, ![2, 1, 256, n, n]⟩, f3⟩, ⟨⟨5, ![2, 1, 256, n, n]⟩, f4⟩, ⟨⟨5, ![2, 1, 256, n, n]⟩, f5⟩, ⟨⟨5, ![2, 1, 256, n, n]⟩, f6⟩, ⟨⟨5, ![2, 1, 256, n, n]⟩, f7⟩, ⟨⟨5, ![2, 1, 256, n, n]⟩, f8⟩] h _ 1 (by simp) ⟨5, ![2, 1, 256, n, n]⟩ f1 rfl rfl 1 rfl (ix5 b 0 c y x) (fun a h => match a, h with
      | ⟨0, _⟩, _ => rfl
      | ⟨1, _⟩, h => absurd rfl h
      | ⟨2, _⟩, _ => rfl
      | ⟨3, _⟩, _ => rfl
      | ⟨4, _⟩, _ => rfl) rfl
  | ⟨2, _⟩ =>
    exact concatenate_apply_piece (t := ⟨5, ![2, 9, 256, n, n]⟩) 1 [⟨⟨5, ![2, 1, 256, n, n]⟩, f0⟩, ⟨⟨5, ![2, 1, 256, n, n]⟩, f1⟩, ⟨⟨5, ![2, 1, 256, n, n]⟩, f2⟩, ⟨⟨5, ![2, 1, 256, n, n]⟩, f3⟩, ⟨⟨5, ![2, 1, 256, n, n]⟩, f4⟩, ⟨⟨5, ![2, 1, 256, n, n]⟩, f5⟩, ⟨⟨5, ![2, 1, 256, n, n]⟩, f6⟩, ⟨⟨5, ![2, 1, 256, n, n]⟩, f7⟩, ⟨⟨5, ![2, 1, 256, n, n]⟩, f8⟩] h _ 2 (by simp) ⟨5, ![2, 1, 256, n, n]⟩ f2 rfl rfl 2 rfl (ix5 b 0 c y x) (fun a h => match a, h with
      | ⟨0, _⟩, _ => rfl
      | ⟨1, _⟩, h => absurd rfl h
      | ⟨2, _⟩, _ => rfl
      | ⟨3, _⟩, _ => rfl
      | ⟨4, _⟩, _ => rfl) rfl
  | ⟨3, _⟩ =>
    exact concatenate_apply_piece (t := ⟨5, ![2, 9, 256, n, n]⟩) 1 [⟨⟨5, ![2, 1, 256, n, n]⟩, f0⟩, ⟨⟨5, ![2, 1, 256, n, n]⟩, f1⟩, ⟨⟨5, ![2, 1, 256, n, n]⟩, f2⟩, ⟨⟨5, ![2, 1, 256, n, n]⟩, f3⟩, ⟨⟨5, ![2, 1, 256, n, n]⟩, f4⟩, ⟨⟨5, ![2, 1, 256, n, n]⟩, f5⟩, ⟨⟨5, ![2, 1, 256, n, n]⟩, f6⟩, ⟨⟨5, ![2, 1, 256, n, n]⟩, f7⟩, ⟨⟨5, ![2, 1, 256, n, n]⟩, f8⟩] h _ 3 (by simp) ⟨5, ![2, 1, 256, n, n]⟩ f3 rfl rfl 3 rfl (ix5 b 0 c y x) (fun a h => match a, h with
      | ⟨0, _⟩, _ => rfl
      | ⟨1, _⟩, h => absurd rfl h
      | ⟨2, _⟩, _ => rfl
      | ⟨3, _⟩, _ => rfl
      | ⟨4, _⟩, _ => rfl) rfl
  | ⟨4, _⟩ =>
    exact concatenate_apply_piece (t := ⟨5, ![2, 9, 256, n, n]⟩) 1 [⟨⟨5, ![2, 1, 256, n, n]⟩, f0⟩, ⟨⟨5, ![2, 1, 256, n, n]⟩, f1⟩, ⟨⟨5, ![2, 1, 256, n, n]⟩, f2⟩, ⟨⟨5, ![2, 1, 256, n, n]⟩, f3⟩, ⟨⟨5, ![2, 1, 256, n, n]⟩, f4⟩, ⟨⟨5, ![2, 1, 256, n, n]⟩, f5⟩, ⟨⟨5, ![2, 1, 256, n, n]⟩, f6⟩, ⟨⟨5, ![2, 1, 256, n, n]⟩, f7⟩, ⟨⟨5, ![2, 1, 256, n, n]⟩, f8⟩] h _ 4 (by simp) ⟨5, ![2, 1, 256, n, n]⟩ f4 rfl rfl 4 rfl (ix5 b 0 c y x) (fun a h => match a, h with
      | ⟨0, _⟩, _ => rfl
      | ⟨1, _⟩, h => absurd rfl h
      | ⟨2, _⟩, _ => rfl
      | ⟨3, _⟩, _ => rfl
      | ⟨4, _⟩, _ => rfl) rfl
  | ⟨5, _⟩ =>
    exact concatenate_apply_piece (t := ⟨5, ![2, 9, 256, n, n]⟩) 1 [⟨⟨5, ![2, 1, 256, n, n]⟩, f0⟩, ⟨⟨5, ![2, 1, 256, n, n]⟩, f1⟩, ⟨⟨5, ![2, 1, 256, n, n]⟩, f2⟩, ⟨⟨5, ![2, 1, 256, n, n]⟩, f3⟩, ⟨⟨5, ![2, 1, 256, n, n]⟩, f4⟩, ⟨⟨5, ![2, 1, 256, n, n]⟩, f5⟩, ⟨⟨5, ![2, 1, 256, n, n]⟩, f6⟩, ⟨⟨5, ![2, 1, 256, n, n]⟩, f7⟩, ⟨⟨5, ![2, 1, 256, n, n]⟩, f8⟩] h _ 5 (by simp) ⟨5, ![2, 1, 256, n, n]⟩ f5 rfl rfl 5 rfl (ix5 b 0 c y x) (fun a h => match a, h with
      | ⟨0, _⟩, _ => rfl
      | ⟨1, _⟩, h => absurd rfl h
      | ⟨2, _⟩, _ => rfl
      | ⟨3, _⟩, _ => rfl
      | ⟨4, _⟩, _ => rfl) rfl
  | ⟨6, _⟩ =>
    exact concatenate_apply_piece (t := ⟨5, ![2, 9, 256, n, n]⟩) 1 [⟨⟨5, ![2, 1, 256, n, n]⟩, f0⟩, ⟨⟨5, ![2, 1, 256, n, n]⟩, f1⟩, ⟨⟨5, ![2, 1, 256, n, n]⟩, f2⟩, ⟨⟨5, ![2, 1, 256, n, n]⟩, f3⟩, ⟨⟨5, ![2, 1, 256, n, n]⟩, f4⟩, ⟨⟨5, ![2, 1, 256, n, n]⟩, f5⟩, ⟨⟨5, ![2, 1, 256, n, n]⟩, f6⟩, ⟨⟨5, ![2, 1, 256, n, n]⟩, f7⟩, ⟨⟨5, ![2, 1, 256, n, n]⟩, f8⟩] h _ 6 (by simp) ⟨5, ![2, 1, 256, n, n]⟩ f6 rfl rfl 6 rfl (ix5 b 0 c y x) (fun a h => match a, h with
      | ⟨0, _⟩, _ => rfl
      | ⟨1, _⟩, h => absurd rfl h
      | ⟨2, _⟩, _ => rfl
      | ⟨3, _⟩, _ => rfl
      | ⟨4, _⟩, _ => rfl) rfl
  | ⟨7, _⟩ =>
    exact concatenate_apply_piece (t := ⟨5, ![2, 9, 256, n, n]⟩) 1 [⟨⟨5, ![2, 1, 256, n, n]⟩, f0⟩, ⟨⟨5, ![2, 1, 256, n, n]⟩, f1⟩, ⟨⟨5, ![2, 1, 256, n, n]⟩, f2⟩, ⟨⟨5, ![2, 1, 256, n, n]⟩, f3⟩, ⟨⟨5, ![2, 1, 256, n, n]⟩, f4⟩, ⟨⟨5, ![2, 1, 256, n, n]⟩, f5⟩, ⟨⟨5, ![2, 1, 256, n, n]⟩, f6⟩, ⟨⟨5, ![2, 1, 256, n, n]⟩, f7⟩, ⟨⟨5, ![2, 1, 256, n, n]⟩, f8⟩] h _ 7 (by simp) ⟨5, ![2, 1, 256, n, n]⟩ f7 rfl rfl 7 rfl (ix5 b 0 c y x) (fun a h => match a, h with
      | ⟨0, _⟩, _ => rfl
      | ⟨1, _⟩, h => absurd rfl h
      | ⟨2, _⟩, _ => rfl
      | ⟨3, _⟩, _ => rfl
      | ⟨4, _⟩, _ => rfl) rfl
  | ⟨8, _⟩ =>
    exact concatenate_apply_piece (t := ⟨5, ![2, 9, 256, n, n]⟩) 1 [⟨⟨5, ![2, 1, 256, n, n]⟩, f0⟩, ⟨⟨5, ![2, 1, 256, n, n]⟩, f1⟩, ⟨⟨5, ![2, 1, 256, n, n]⟩, f2⟩, ⟨⟨5, ![2, 1, 256, n, n]⟩, f3⟩, ⟨⟨5, ![2, 1, 256, n, n]⟩, f4⟩, ⟨⟨5, ![2, 1, 256, n, n]⟩, f5⟩, ⟨⟨5, ![2, 1, 256, n, n]⟩, f6⟩, ⟨⟨5, ![2, 1, 256, n, n]⟩, f7⟩, ⟨⟨5, ![2, 1, 256, n, n]⟩, f8⟩] h _ 8 (by simp) ⟨5, ![2, 1, 256, n, n]⟩ f8 rfl rfl 8 rfl (ix5 b 0 c y x) (fun a h => match a, h with
      | ⟨0, _⟩, _ => rfl
      | ⟨1, _⟩, h => absurd rfl h
      | ⟨2, _⟩, _ => rfl
      | ⟨3, _⟩, _ => rfl
      | ⟨4, _⟩, _ => rfl) rfl

/-- The nine shifted slices of a padded feature map stacked, as columns of one position each. -/
def cols64 (xp : FVec Ideal S2x256x66x66 .f32) : FVec Ideal S2x2304x4096 .f32 :=
  shapeCast S2x2304x4096 (concatenate S2x9x256x64x64 1 [⟨S2x1x256x64x64, broadcastInDim S2x1x256x64x64 ![0, 2, 3, 4] bcast_S2x256x64x64_S2x1x256x64x64_0_2_3_4 (extractStridedSlice S2x256x64x64 ![0, 0, 0, 0] xp slices_S2x256x66x66_S2x256x64x64_0_0_0_0)⟩,
    ⟨S2x1x256x64x64, broadcastInDim S2x1x256x64x64 ![0, 2, 3, 4] bcast_S2x256x64x64_S2x1x256x64x64_0_2_3_4 (extractStridedSlice S2x256x64x64 ![0, 0, 0, 1] xp slices_S2x256x66x66_S2x256x64x64_0_0_0_1)⟩,
    ⟨S2x1x256x64x64, broadcastInDim S2x1x256x64x64 ![0, 2, 3, 4] bcast_S2x256x64x64_S2x1x256x64x64_0_2_3_4 (extractStridedSlice S2x256x64x64 ![0, 0, 0, 2] xp slices_S2x256x66x66_S2x256x64x64_0_0_0_2)⟩,
    ⟨S2x1x256x64x64, broadcastInDim S2x1x256x64x64 ![0, 2, 3, 4] bcast_S2x256x64x64_S2x1x256x64x64_0_2_3_4 (extractStridedSlice S2x256x64x64 ![0, 0, 1, 0] xp slices_S2x256x66x66_S2x256x64x64_0_0_1_0)⟩,
    ⟨S2x1x256x64x64, broadcastInDim S2x1x256x64x64 ![0, 2, 3, 4] bcast_S2x256x64x64_S2x1x256x64x64_0_2_3_4 (extractStridedSlice S2x256x64x64 ![0, 0, 1, 1] xp slices_S2x256x66x66_S2x256x64x64_0_0_1_1)⟩,
    ⟨S2x1x256x64x64, broadcastInDim S2x1x256x64x64 ![0, 2, 3, 4] bcast_S2x256x64x64_S2x1x256x64x64_0_2_3_4 (extractStridedSlice S2x256x64x64 ![0, 0, 1, 2] xp slices_S2x256x66x66_S2x256x64x64_0_0_1_2)⟩,
    ⟨S2x1x256x64x64, broadcastInDim S2x1x256x64x64 ![0, 2, 3, 4] bcast_S2x256x64x64_S2x1x256x64x64_0_2_3_4 (extractStridedSlice S2x256x64x64 ![0, 0, 2, 0] xp slices_S2x256x66x66_S2x256x64x64_0_0_2_0)⟩,
    ⟨S2x1x256x64x64, broadcastInDim S2x1x256x64x64 ![0, 2, 3, 4] bcast_S2x256x64x64_S2x1x256x64x64_0_2_3_4 (extractStridedSlice S2x256x64x64 ![0, 0, 2, 1] xp slices_S2x256x66x66_S2x256x64x64_0_0_2_1)⟩,
    ⟨S2x1x256x64x64, broadcastInDim S2x1x256x64x64 ![0, 2, 3, 4] bcast_S2x256x64x64_S2x1x256x64x64_0_2_3_4 (extractStridedSlice S2x256x64x64 ![0, 0, 2, 2] xp slices_S2x256x66x66_S2x256x64x64_0_0_2_2)⟩] concatenates_S2x1x256x64x64_S2x1x256x64x64_S2x1x256x64x64_S2x1x256x64x64_S2x1x256x64x64_S2x1x256x64x64_S2x1x256x64x64_S2x1x256x64x64_S2x1x256x64x64_S2x9x256x64x64_d1) shapeCasts_S2x9x256x64x64_S2x2304x4096

theorem cols64_at (xp : FVec Ideal S2x256x66x66 .f32) (b : Fin 2) (t : Fin 9) (c : Fin 256) (y x : Fin 64) (k : Fin 2304) (p : Fin 4096)
    (hk : k.val = 256 * t.val + c.val) (hp : p.val = 64 * y.val + x.val) :
    cols64 xp (ix3 b k p) = xp (ix4 b c ⟨y.val + t.val / 3, by omega⟩ ⟨x.val + t.val % 3, by omega⟩) := by
  unfold cols64
  rw [shapeCast_apply _ _ (ix3 b k p) (ix5 b t c y x) (by
    rw [Shape.rowMajor_val_five, Shape.rowMajor_val_three]
    show (((b.val * 9 + t.val) * 256 + c.val) * 64 + y.val) * 64 + x.val = (b.val * 2304 + k.val) * 4096 + p.val
    omega)]
  refine (stack9_at _ (broadcastInDim S2x1x256x64x64 ![0, 2, 3, 4] bcast_S2x256x64x64_S2x1x256x64x64_0_2_3_4 (extractStridedSlice S2x256x64x64 ![0, 0, 0, 0] xp slices_S2x256x66x66_S2x256x64x64_0_0_0_0))
    (broadcastInDim S2x1x256x64x64 ![0, 2, 3, 4] bcast_S2x256x64x64_S2x1x256x64x64_0_2_3_4 (extractStridedSlice S2x256x64x64 ![0, 0, 0, 1] xp slices_S2x256x66x66_S2x256x64x64_0_0_0_1))
    (broadcastInDim S2x1x256x64x64 ![0, 2, 3, 4] bcast_S2x256x64x64_S2x1x256x64x64_0_2_3_4 (extractStridedSlice S2x256x64x64 ![0, 0, 0, 2] xp slices_S2x256x66x66_S2x256x64x64_0_0_0_2))
    (broadcastInDim S2x1x256x64x64 ![0, 2, 3, 4] bcast_S2x256x64x64_S2x1x256x64x64_0_2_3_4 (extractStridedSlice S2x256x64x64 ![0, 0, 1, 0] xp slices_S2x256x66x66_S2x256x64x64_0_0_1_0))
    (broadcastInDim S2x1x256x64x64 ![0, 2, 3, 4] bcast_S2x256x64x64_S2x1x256x64x64_0_2_3_4 (extractStridedSlice S2x256x64x64 ![0, 0, 1, 1] xp slices_S2x256x66x66_S2x256x64x64_0_0_1_1))
    (broadcastInDim S2x1x256x64x64 ![0, 2, 3, 4] bcast_S2x256x64x64_S2x1x256x64x64_0_2_3_4 (extractStridedSlice S2x256x64x64 ![0, 0, 1, 2] xp slices_S2x256x66x66_S2x256x64x64_0_0_1_2))
    (broadcastInDim S2x1x256x64x64 ![0, 2, 3, 4] bcast_S2x256x64x64_S2x1x256x64x64_0_2_3_4 (extractStridedSlice S2x256x64x64 ![0, 0, 2, 0] xp slices_S2x256x66x66_S2x256x64x64_0_0_2_0))
    (broadcastInDim S2x1x256x64x64 ![0, 2, 3, 4] bcast_S2x256x64x64_S2x1x256x64x64_0_2_3_4 (extractStridedSlice S2x256x64x64 ![0, 0, 2, 1] xp slices_S2x256x66x66_S2x256x64x64_0_0_2_1))
    (broadcastInDim S2x1x256x64x64 ![0, 2, 3, 4] bcast_S2x256x64x64_S2x1x256x64x64_0_2_3_4 (extractStridedSlice S2x256x64x64 ![0, 0, 2, 2] xp slices_S2x256x66x66_S2x256x64x64_0_0_2_2)) b t c y x).trans ?_
  match t with
  | ⟨0, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 0 / 3 = 0 + y.val; omega
      | ⟨3, _⟩ => by show x.val + 0 % 3 = 0 + x.val; omega)
  | ⟨1, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 1 / 3 = 0 + y.val; omega
      | ⟨3, _⟩ => by show x.val + 1 % 3 = 1 + x.val; omega)
  | ⟨2, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 2 / 3 = 0 + y.val; omega
      | ⟨3, _⟩ => by show x.val + 2 % 3 = 2 + x.val; omega)
  | ⟨3, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 3 / 3 = 1 + y.val; omega
      | ⟨3, _⟩ => by show x.val + 3 % 3 = 0 + x.val; omega)
  | ⟨4, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 4 / 3 = 1 + y.val; omega
      | ⟨3, _⟩ => by show x.val + 4 % 3 = 1 + x.val; omega)
  | ⟨5, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 5 / 3 = 1 + y.val; omega
      | ⟨3, _⟩ => by show x.val + 5 % 3 = 2 + x.val; omega)
  | ⟨6, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 6 / 3 = 2 + y.val; omega
      | ⟨3, _⟩ => by show x.val + 6 % 3 = 0 + x.val; omega)
  | ⟨7, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 7 / 3 = 2 + y.val; omega
      | ⟨3, _⟩ => by show x.val + 7 % 3 = 1 + x.val; omega)
  | ⟨8, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 8 / 3 = 2 + y.val; omega
      | ⟨3, _⟩ => by show x.val + 8 % 3 = 2 + x.val; omega)

/-- The nine shifted slices of a padded feature map stacked, as columns of one position each. -/
def cols32 (xp : FVec Ideal S2x256x34x34 .f32) : FVec Ideal S2x2304x1024 .f32 :=
  shapeCast S2x2304x1024 (concatenate S2x9x256x32x32 1 [⟨S2x1x256x32x32, broadcastInDim S2x1x256x32x32 ![0, 2, 3, 4] bcast_S2x256x32x32_S2x1x256x32x32_0_2_3_4 (extractStridedSlice S2x256x32x32 ![0, 0, 0, 0] xp slices_S2x256x34x34_S2x256x32x32_0_0_0_0)⟩,
    ⟨S2x1x256x32x32, broadcastInDim S2x1x256x32x32 ![0, 2, 3, 4] bcast_S2x256x32x32_S2x1x256x32x32_0_2_3_4 (extractStridedSlice S2x256x32x32 ![0, 0, 0, 1] xp slices_S2x256x34x34_S2x256x32x32_0_0_0_1)⟩,
    ⟨S2x1x256x32x32, broadcastInDim S2x1x256x32x32 ![0, 2, 3, 4] bcast_S2x256x32x32_S2x1x256x32x32_0_2_3_4 (extractStridedSlice S2x256x32x32 ![0, 0, 0, 2] xp slices_S2x256x34x34_S2x256x32x32_0_0_0_2)⟩,
    ⟨S2x1x256x32x32, broadcastInDim S2x1x256x32x32 ![0, 2, 3, 4] bcast_S2x256x32x32_S2x1x256x32x32_0_2_3_4 (extractStridedSlice S2x256x32x32 ![0, 0, 1, 0] xp slices_S2x256x34x34_S2x256x32x32_0_0_1_0)⟩,
    ⟨S2x1x256x32x32, broadcastInDim S2x1x256x32x32 ![0, 2, 3, 4] bcast_S2x256x32x32_S2x1x256x32x32_0_2_3_4 (extractStridedSlice S2x256x32x32 ![0, 0, 1, 1] xp slices_S2x256x34x34_S2x256x32x32_0_0_1_1)⟩,
    ⟨S2x1x256x32x32, broadcastInDim S2x1x256x32x32 ![0, 2, 3, 4] bcast_S2x256x32x32_S2x1x256x32x32_0_2_3_4 (extractStridedSlice S2x256x32x32 ![0, 0, 1, 2] xp slices_S2x256x34x34_S2x256x32x32_0_0_1_2)⟩,
    ⟨S2x1x256x32x32, broadcastInDim S2x1x256x32x32 ![0, 2, 3, 4] bcast_S2x256x32x32_S2x1x256x32x32_0_2_3_4 (extractStridedSlice S2x256x32x32 ![0, 0, 2, 0] xp slices_S2x256x34x34_S2x256x32x32_0_0_2_0)⟩,
    ⟨S2x1x256x32x32, broadcastInDim S2x1x256x32x32 ![0, 2, 3, 4] bcast_S2x256x32x32_S2x1x256x32x32_0_2_3_4 (extractStridedSlice S2x256x32x32 ![0, 0, 2, 1] xp slices_S2x256x34x34_S2x256x32x32_0_0_2_1)⟩,
    ⟨S2x1x256x32x32, broadcastInDim S2x1x256x32x32 ![0, 2, 3, 4] bcast_S2x256x32x32_S2x1x256x32x32_0_2_3_4 (extractStridedSlice S2x256x32x32 ![0, 0, 2, 2] xp slices_S2x256x34x34_S2x256x32x32_0_0_2_2)⟩] concatenates_S2x1x256x32x32_S2x1x256x32x32_S2x1x256x32x32_S2x1x256x32x32_S2x1x256x32x32_S2x1x256x32x32_S2x1x256x32x32_S2x1x256x32x32_S2x1x256x32x32_S2x9x256x32x32_d1) shapeCasts_S2x9x256x32x32_S2x2304x1024

theorem cols32_at (xp : FVec Ideal S2x256x34x34 .f32) (b : Fin 2) (t : Fin 9) (c : Fin 256) (y x : Fin 32) (k : Fin 2304) (p : Fin 1024)
    (hk : k.val = 256 * t.val + c.val) (hp : p.val = 32 * y.val + x.val) :
    cols32 xp (ix3 b k p) = xp (ix4 b c ⟨y.val + t.val / 3, by omega⟩ ⟨x.val + t.val % 3, by omega⟩) := by
  unfold cols32
  rw [shapeCast_apply _ _ (ix3 b k p) (ix5 b t c y x) (by
    rw [Shape.rowMajor_val_five, Shape.rowMajor_val_three]
    show (((b.val * 9 + t.val) * 256 + c.val) * 32 + y.val) * 32 + x.val = (b.val * 2304 + k.val) * 1024 + p.val
    omega)]
  refine (stack9_at _ (broadcastInDim S2x1x256x32x32 ![0, 2, 3, 4] bcast_S2x256x32x32_S2x1x256x32x32_0_2_3_4 (extractStridedSlice S2x256x32x32 ![0, 0, 0, 0] xp slices_S2x256x34x34_S2x256x32x32_0_0_0_0))
    (broadcastInDim S2x1x256x32x32 ![0, 2, 3, 4] bcast_S2x256x32x32_S2x1x256x32x32_0_2_3_4 (extractStridedSlice S2x256x32x32 ![0, 0, 0, 1] xp slices_S2x256x34x34_S2x256x32x32_0_0_0_1))
    (broadcastInDim S2x1x256x32x32 ![0, 2, 3, 4] bcast_S2x256x32x32_S2x1x256x32x32_0_2_3_4 (extractStridedSlice S2x256x32x32 ![0, 0, 0, 2] xp slices_S2x256x34x34_S2x256x32x32_0_0_0_2))
    (broadcastInDim S2x1x256x32x32 ![0, 2, 3, 4] bcast_S2x256x32x32_S2x1x256x32x32_0_2_3_4 (extractStridedSlice S2x256x32x32 ![0, 0, 1, 0] xp slices_S2x256x34x34_S2x256x32x32_0_0_1_0))
    (broadcastInDim S2x1x256x32x32 ![0, 2, 3, 4] bcast_S2x256x32x32_S2x1x256x32x32_0_2_3_4 (extractStridedSlice S2x256x32x32 ![0, 0, 1, 1] xp slices_S2x256x34x34_S2x256x32x32_0_0_1_1))
    (broadcastInDim S2x1x256x32x32 ![0, 2, 3, 4] bcast_S2x256x32x32_S2x1x256x32x32_0_2_3_4 (extractStridedSlice S2x256x32x32 ![0, 0, 1, 2] xp slices_S2x256x34x34_S2x256x32x32_0_0_1_2))
    (broadcastInDim S2x1x256x32x32 ![0, 2, 3, 4] bcast_S2x256x32x32_S2x1x256x32x32_0_2_3_4 (extractStridedSlice S2x256x32x32 ![0, 0, 2, 0] xp slices_S2x256x34x34_S2x256x32x32_0_0_2_0))
    (broadcastInDim S2x1x256x32x32 ![0, 2, 3, 4] bcast_S2x256x32x32_S2x1x256x32x32_0_2_3_4 (extractStridedSlice S2x256x32x32 ![0, 0, 2, 1] xp slices_S2x256x34x34_S2x256x32x32_0_0_2_1))
    (broadcastInDim S2x1x256x32x32 ![0, 2, 3, 4] bcast_S2x256x32x32_S2x1x256x32x32_0_2_3_4 (extractStridedSlice S2x256x32x32 ![0, 0, 2, 2] xp slices_S2x256x34x34_S2x256x32x32_0_0_2_2)) b t c y x).trans ?_
  match t with
  | ⟨0, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 0 / 3 = 0 + y.val; omega
      | ⟨3, _⟩ => by show x.val + 0 % 3 = 0 + x.val; omega)
  | ⟨1, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 1 / 3 = 0 + y.val; omega
      | ⟨3, _⟩ => by show x.val + 1 % 3 = 1 + x.val; omega)
  | ⟨2, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 2 / 3 = 0 + y.val; omega
      | ⟨3, _⟩ => by show x.val + 2 % 3 = 2 + x.val; omega)
  | ⟨3, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 3 / 3 = 1 + y.val; omega
      | ⟨3, _⟩ => by show x.val + 3 % 3 = 0 + x.val; omega)
  | ⟨4, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 4 / 3 = 1 + y.val; omega
      | ⟨3, _⟩ => by show x.val + 4 % 3 = 1 + x.val; omega)
  | ⟨5, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 5 / 3 = 1 + y.val; omega
      | ⟨3, _⟩ => by show x.val + 5 % 3 = 2 + x.val; omega)
  | ⟨6, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 6 / 3 = 2 + y.val; omega
      | ⟨3, _⟩ => by show x.val + 6 % 3 = 0 + x.val; omega)
  | ⟨7, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 7 / 3 = 2 + y.val; omega
      | ⟨3, _⟩ => by show x.val + 7 % 3 = 1 + x.val; omega)
  | ⟨8, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 8 / 3 = 2 + y.val; omega
      | ⟨3, _⟩ => by show x.val + 8 % 3 = 2 + x.val; omega)

/-- The nine shifted slices of a padded feature map stacked, as columns of one position each. -/
def cols16 (xp : FVec Ideal S2x256x18x18 .f32) : FVec Ideal S2x2304x256 .f32 :=
  shapeCast S2x2304x256 (concatenate S2x9x256x16x16 1 [⟨S2x1x256x16x16, broadcastInDim S2x1x256x16x16 ![0, 2, 3, 4] bcast_S2x256x16x16_S2x1x256x16x16_0_2_3_4 (extractStridedSlice S2x256x16x16 ![0, 0, 0, 0] xp slices_S2x256x18x18_S2x256x16x16_0_0_0_0)⟩,
    ⟨S2x1x256x16x16, broadcastInDim S2x1x256x16x16 ![0, 2, 3, 4] bcast_S2x256x16x16_S2x1x256x16x16_0_2_3_4 (extractStridedSlice S2x256x16x16 ![0, 0, 0, 1] xp slices_S2x256x18x18_S2x256x16x16_0_0_0_1)⟩,
    ⟨S2x1x256x16x16, broadcastInDim S2x1x256x16x16 ![0, 2, 3, 4] bcast_S2x256x16x16_S2x1x256x16x16_0_2_3_4 (extractStridedSlice S2x256x16x16 ![0, 0, 0, 2] xp slices_S2x256x18x18_S2x256x16x16_0_0_0_2)⟩,
    ⟨S2x1x256x16x16, broadcastInDim S2x1x256x16x16 ![0, 2, 3, 4] bcast_S2x256x16x16_S2x1x256x16x16_0_2_3_4 (extractStridedSlice S2x256x16x16 ![0, 0, 1, 0] xp slices_S2x256x18x18_S2x256x16x16_0_0_1_0)⟩,
    ⟨S2x1x256x16x16, broadcastInDim S2x1x256x16x16 ![0, 2, 3, 4] bcast_S2x256x16x16_S2x1x256x16x16_0_2_3_4 (extractStridedSlice S2x256x16x16 ![0, 0, 1, 1] xp slices_S2x256x18x18_S2x256x16x16_0_0_1_1)⟩,
    ⟨S2x1x256x16x16, broadcastInDim S2x1x256x16x16 ![0, 2, 3, 4] bcast_S2x256x16x16_S2x1x256x16x16_0_2_3_4 (extractStridedSlice S2x256x16x16 ![0, 0, 1, 2] xp slices_S2x256x18x18_S2x256x16x16_0_0_1_2)⟩,
    ⟨S2x1x256x16x16, broadcastInDim S2x1x256x16x16 ![0, 2, 3, 4] bcast_S2x256x16x16_S2x1x256x16x16_0_2_3_4 (extractStridedSlice S2x256x16x16 ![0, 0, 2, 0] xp slices_S2x256x18x18_S2x256x16x16_0_0_2_0)⟩,
    ⟨S2x1x256x16x16, broadcastInDim S2x1x256x16x16 ![0, 2, 3, 4] bcast_S2x256x16x16_S2x1x256x16x16_0_2_3_4 (extractStridedSlice S2x256x16x16 ![0, 0, 2, 1] xp slices_S2x256x18x18_S2x256x16x16_0_0_2_1)⟩,
    ⟨S2x1x256x16x16, broadcastInDim S2x1x256x16x16 ![0, 2, 3, 4] bcast_S2x256x16x16_S2x1x256x16x16_0_2_3_4 (extractStridedSlice S2x256x16x16 ![0, 0, 2, 2] xp slices_S2x256x18x18_S2x256x16x16_0_0_2_2)⟩] concatenates_S2x1x256x16x16_S2x1x256x16x16_S2x1x256x16x16_S2x1x256x16x16_S2x1x256x16x16_S2x1x256x16x16_S2x1x256x16x16_S2x1x256x16x16_S2x1x256x16x16_S2x9x256x16x16_d1) shapeCasts_S2x9x256x16x16_S2x2304x256

theorem cols16_at (xp : FVec Ideal S2x256x18x18 .f32) (b : Fin 2) (t : Fin 9) (c : Fin 256) (y x : Fin 16) (k : Fin 2304) (p : Fin 256)
    (hk : k.val = 256 * t.val + c.val) (hp : p.val = 16 * y.val + x.val) :
    cols16 xp (ix3 b k p) = xp (ix4 b c ⟨y.val + t.val / 3, by omega⟩ ⟨x.val + t.val % 3, by omega⟩) := by
  unfold cols16
  rw [shapeCast_apply _ _ (ix3 b k p) (ix5 b t c y x) (by
    rw [Shape.rowMajor_val_five, Shape.rowMajor_val_three]
    show (((b.val * 9 + t.val) * 256 + c.val) * 16 + y.val) * 16 + x.val = (b.val * 2304 + k.val) * 256 + p.val
    omega)]
  refine (stack9_at _ (broadcastInDim S2x1x256x16x16 ![0, 2, 3, 4] bcast_S2x256x16x16_S2x1x256x16x16_0_2_3_4 (extractStridedSlice S2x256x16x16 ![0, 0, 0, 0] xp slices_S2x256x18x18_S2x256x16x16_0_0_0_0))
    (broadcastInDim S2x1x256x16x16 ![0, 2, 3, 4] bcast_S2x256x16x16_S2x1x256x16x16_0_2_3_4 (extractStridedSlice S2x256x16x16 ![0, 0, 0, 1] xp slices_S2x256x18x18_S2x256x16x16_0_0_0_1))
    (broadcastInDim S2x1x256x16x16 ![0, 2, 3, 4] bcast_S2x256x16x16_S2x1x256x16x16_0_2_3_4 (extractStridedSlice S2x256x16x16 ![0, 0, 0, 2] xp slices_S2x256x18x18_S2x256x16x16_0_0_0_2))
    (broadcastInDim S2x1x256x16x16 ![0, 2, 3, 4] bcast_S2x256x16x16_S2x1x256x16x16_0_2_3_4 (extractStridedSlice S2x256x16x16 ![0, 0, 1, 0] xp slices_S2x256x18x18_S2x256x16x16_0_0_1_0))
    (broadcastInDim S2x1x256x16x16 ![0, 2, 3, 4] bcast_S2x256x16x16_S2x1x256x16x16_0_2_3_4 (extractStridedSlice S2x256x16x16 ![0, 0, 1, 1] xp slices_S2x256x18x18_S2x256x16x16_0_0_1_1))
    (broadcastInDim S2x1x256x16x16 ![0, 2, 3, 4] bcast_S2x256x16x16_S2x1x256x16x16_0_2_3_4 (extractStridedSlice S2x256x16x16 ![0, 0, 1, 2] xp slices_S2x256x18x18_S2x256x16x16_0_0_1_2))
    (broadcastInDim S2x1x256x16x16 ![0, 2, 3, 4] bcast_S2x256x16x16_S2x1x256x16x16_0_2_3_4 (extractStridedSlice S2x256x16x16 ![0, 0, 2, 0] xp slices_S2x256x18x18_S2x256x16x16_0_0_2_0))
    (broadcastInDim S2x1x256x16x16 ![0, 2, 3, 4] bcast_S2x256x16x16_S2x1x256x16x16_0_2_3_4 (extractStridedSlice S2x256x16x16 ![0, 0, 2, 1] xp slices_S2x256x18x18_S2x256x16x16_0_0_2_1))
    (broadcastInDim S2x1x256x16x16 ![0, 2, 3, 4] bcast_S2x256x16x16_S2x1x256x16x16_0_2_3_4 (extractStridedSlice S2x256x16x16 ![0, 0, 2, 2] xp slices_S2x256x18x18_S2x256x16x16_0_0_2_2)) b t c y x).trans ?_
  match t with
  | ⟨0, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 0 / 3 = 0 + y.val; omega
      | ⟨3, _⟩ => by show x.val + 0 % 3 = 0 + x.val; omega)
  | ⟨1, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 1 / 3 = 0 + y.val; omega
      | ⟨3, _⟩ => by show x.val + 1 % 3 = 1 + x.val; omega)
  | ⟨2, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 2 / 3 = 0 + y.val; omega
      | ⟨3, _⟩ => by show x.val + 2 % 3 = 2 + x.val; omega)
  | ⟨3, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 3 / 3 = 1 + y.val; omega
      | ⟨3, _⟩ => by show x.val + 3 % 3 = 0 + x.val; omega)
  | ⟨4, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 4 / 3 = 1 + y.val; omega
      | ⟨3, _⟩ => by show x.val + 4 % 3 = 1 + x.val; omega)
  | ⟨5, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 5 / 3 = 1 + y.val; omega
      | ⟨3, _⟩ => by show x.val + 5 % 3 = 2 + x.val; omega)
  | ⟨6, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 6 / 3 = 2 + y.val; omega
      | ⟨3, _⟩ => by show x.val + 6 % 3 = 0 + x.val; omega)
  | ⟨7, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 7 / 3 = 2 + y.val; omega
      | ⟨3, _⟩ => by show x.val + 7 % 3 = 1 + x.val; omega)
  | ⟨8, _⟩ =>
    refine (broadcastInDim_apply _ _ _ (ix5 b 0 c y x) (ix4 b c y x) (fun a => match a with
      | ⟨0, _⟩ => rfl
      | ⟨1, _⟩ => rfl
      | ⟨2, _⟩ => rfl
      | ⟨3, _⟩ => rfl)).trans ?_
    exact extractStridedSlice_apply _ _ _ _ _ (fun a => match a with
      | ⟨0, _⟩ => (Nat.zero_add _).symm
      | ⟨1, _⟩ => (Nat.zero_add _).symm
      | ⟨2, _⟩ => by show y.val + 8 / 3 = 2 + y.val; omega
      | ⟨3, _⟩ => by show x.val + 8 % 3 = 2 + x.val; omega)

end Cert.Heads

end
-- ==== Proof.HEntry.lean ====
module

public import proofs.«01_k».proof.Proof.HFinal
public import proofs.«01_k».proof.Proof.Cols

@[expose] public section

set_option maxRecDepth 16384

noncomputable section

open Idealize.ShloMosaic Idealize.ShloMosaic.TcCoe Idealize.SL.Sem

namespace Cert.Heads

open Cert.Kernel2Ideal Cert.Kernel2Ideal.Gen

variable (m : (ℓ : Loc nD τ sig) → Buf (Elt Ideal) ℓ)

/-- A feature map with a border of zeros. -/
def pad64 (x : FVec Ideal S2x256x64x64 .f32) : FVec Ideal S2x256x66x66 .f32 :=
  pad S2x256x66x66 ![0, 0, 1, 1] ![0, 0, 1, 1] ![0, 0, 0, 0] x (sitofp (F := Ideal) .f32 (constantI S_ 32 0#32)) pads_S2x256x64x64_S2x256x66x66_000_000_110_110 h_S_
def pad32 (x : FVec Ideal S2x256x32x32 .f32) : FVec Ideal S2x256x34x34 .f32 :=
  pad S2x256x34x34 ![0, 0, 1, 1] ![0, 0, 1, 1] ![0, 0, 0, 0] x (sitofp (F := Ideal) .f32 (constantI S_ 32 0#32)) pads_S2x256x32x32_S2x256x34x34_000_000_110_110 h_S_
def pad16 (x : FVec Ideal S2x256x16x16 .f32) : FVec Ideal S2x256x18x18 .f32 :=
  pad S2x256x18x18 ![0, 0, 1, 1] ![0, 0, 1, 1] ![0, 0, 0, 0] x (sitofp (F := Ideal) .f32 (constantI S_ 32 0#32)) pads_S2x256x16x16_S2x256x18x18_000_000_110_110 h_S_

/-- The columns of the three levels side by side, image after image. -/
def x9 (f0 : FVec Ideal S2x256x64x64 .f32) (f1 : FVec Ideal S2x256x32x32 .f32) (f2 : FVec Ideal S2x256x16x16 .f32) : FVec Ideal S2304x10752 .f32 :=
  shapeCast S2304x10752 (transpose S2304x2x5376 [1, 0, 2] (concatenate S2x2304x5376 2 [⟨S2x2304x4096, cols64 (pad64 f0)⟩, ⟨S2x2304x1024, cols32 (pad32 f1)⟩, ⟨S2x2304x256, cols16 (pad16 f2)⟩]
    concatenates_S2x2304x4096_S2x2304x1024_S2x2304x256_S2x2304x5376_d2) transposes_S2x2304x5376_S2304x2x5376_1_0_2) shapeCasts_S2304x2x5376_S2304x10752

def w2 (w : FVec Ideal S256x256x3x3 .f32) : FVec Ideal S256x2304 .f32 :=
  shapeCast S256x2304 (transpose S256x3x3x256 [0, 2, 3, 1] w transposes_S256x256x3x3_S256x3x3x256_0_2_3_1) shapeCasts_S256x3x3x256_S256x2304

def cb (b : FVec Ideal S256 .f32) : FVec Ideal S256x1 .f32 := shapeCast S256x1 b shapeCasts_S256_S256x1

def wh (cw : FVec Ideal S3x256x1x1 .f32) (rw : FVec Ideal S12x256x1x1 .f32) : FVec Ideal S16x256 .f32 :=
  pad S16x256 ![0, 0] ![1, 0] ![0, 0] (concatenate S15x256 0 [⟨S3x256, shapeCast S3x256 cw shapeCasts_S3x256x1x1_S3x256⟩, ⟨S12x256, shapeCast S12x256 rw shapeCasts_S12x256x1x1_S12x256⟩]
    concatenates_S3x256_S12x256_S15x256_d0) (sitofp (F := Ideal) .f32 (constantI S_ 32 0#32)) pads_S15x256_S16x256_010_000 h_S_

def hb (cb : FVec Ideal S3 .f32) (rb : FVec Ideal S12 .f32) : FVec Ideal S16x1 .f32 :=
  shapeCast S16x1 (pad S16 ![0] ![1] ![0] (concatenate S15 0 [⟨S3, cb⟩, ⟨S12, rb⟩] concatenates_S3_S12_S15_d0) (sitofp (F := Ideal) .f32 (constantI S_ 32 0#32)) pads_S15_S16_010 h_S_) shapeCasts_S16_S16x1

theorem e67 (c : Dev nD) : V m c main_v67 = w2 (m ((c : Thread nD τ).loc main_arg3)) := by
  show StableHlo.after _ _ _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem e75 (c : Dev nD) : V m c main_v75 = cb (m ((c : Thread nD τ).loc main_arg4)) := by
  show StableHlo.after _ _ _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem e71 (c : Dev nD) : V m c main_v71 = wh (m ((c : Thread nD τ).loc main_arg5)) (m ((c : Thread nD τ).loc main_arg7)) := by
  show StableHlo.after _ _ _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem e74 (c : Dev nD) : V m c main_v74 = hb (m ((c : Thread nD τ).loc main_arg6)) (m ((c : Thread nD τ).loc main_arg8)) := by
  show StableHlo.after _ _ _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem l0 (W : Valuation τ sig (Elt Ideal)) : StableHlo.after (Val := Elt Ideal) hostOps0 W (Proc.devRef .tc main_c) = constantI S_ 32 0#32 := by
  simp only [hostOps0]
  after_results
  try rfl

theorem p0 (W : Valuation τ sig (Elt Ideal)) : StableHlo.after (Val := Elt Ideal) hostOps0_1 W (Proc.devRef .tc main_v0) = pad S2x256x66x66 ![0, 0, 1, 1] ![0, 0, 1, 1] ![0, 0, 0, 0] (W (Proc.devRef .tc main_arg0)) (sitofp (F := Ideal) .f32 (W (Proc.devRef .tc main_c))) pads_S2x256x64x64_S2x256x66x66_000_000_110_110 h_S_ := by
  simp only [hostOps0_1]
  after_results
  try rfl

theorem q0 (W : Valuation τ sig (Elt Ideal)) : StableHlo.after (Val := Elt Ideal) hostOps0_2 W (Proc.devRef .tc main_v20) = cols64 (W (Proc.devRef .tc main_v0)) := by
  simp only [hostOps0_2]
  after_results
  try rfl

theorem q0c (W : Valuation τ sig (Elt Ideal)) : StableHlo.after (Val := Elt Ideal) hostOps0_2 W (Proc.devRef .tc main_c_0) = constantI S_ 32 0#32 := by
  simp only [hostOps0_2]
  after_results
  try rfl

theorem p1 (W : Valuation τ sig (Elt Ideal)) : StableHlo.after (Val := Elt Ideal) hostOps0_3 W (Proc.devRef .tc main_v21) = pad S2x256x34x34 ![0, 0, 1, 1] ![0, 0, 1, 1] ![0, 0, 0, 0] (W (Proc.devRef .tc main_arg1)) (sitofp (F := Ideal) .f32 (W (Proc.devRef .tc main_c_0))) pads_S2x256x32x32_S2x256x34x34_000_000_110_110 h_S_ := by
  simp only [hostOps0_3]
  after_results
  try rfl

theorem q1 (W : Valuation τ sig (Elt Ideal)) : StableHlo.after (Val := Elt Ideal) hostOps0_4 W (Proc.devRef .tc main_v41) = cols32 (W (Proc.devRef .tc main_v21)) := by
  simp only [hostOps0_4]
  after_results
  try rfl

theorem q1c (W : Valuation τ sig (Elt Ideal)) : StableHlo.after (Val := Elt Ideal) hostOps0_4 W (Proc.devRef .tc main_c_1) = constantI S_ 32 0#32 := by
  simp only [hostOps0_4]
  after_results
  try rfl

theorem p2 (W : Valuation τ sig (Elt Ideal)) : StableHlo.after (Val := Elt Ideal) hostOps0_5 W (Proc.devRef .tc main_v42) = pad S2x256x18x18 ![0, 0, 1, 1] ![0, 0, 1, 1] ![0, 0, 0, 0] (W (Proc.devRef .tc main_arg2)) (sitofp (F := Ideal) .f32 (W (Proc.devRef .tc main_c_1))) pads_S2x256x16x16_S2x256x18x18_000_000_110_110 h_S_ := by
  simp only [hostOps0_5]
  after_results
  try rfl

theorem q2 (W : Valuation τ sig (Elt Ideal)) : StableHlo.after (Val := Elt Ideal) hostOps0_6 W (Proc.devRef .tc main_v65) = shapeCast S2304x10752 (transpose S2304x2x5376 [1, 0, 2] (concatenate S2x2304x5376 2 [⟨S2x2304x4096, (W (Proc.devRef .tc main_v20))⟩, ⟨S2x2304x1024, (W (Proc.devRef .tc main_v41))⟩, ⟨S2x2304x256, cols16 (W (Proc.devRef .tc main_v42))⟩] concatenates_S2x2304x4096_S2x2304x1024_S2x2304x256_S2x2304x5376_d2) transposes_S2x2304x5376_S2304x2x5376_1_0_2) shapeCasts_S2304x2x5376_S2304x10752 := by
  simp only [hostOps0_6]
  after_results
  try rfl

theorem u_arg0 (W : Valuation τ sig (Elt Ideal)) : StableHlo.after (Val := Elt Ideal) hostOps0 W (Proc.devRef .tc main_arg0) = (W (Proc.devRef .tc main_arg0)) := by
  simp only [hostOps0]
  after_results

theorem u_arg1 (W : Valuation τ sig (Elt Ideal)) : StableHlo.after (Val := Elt Ideal) hostOps0 W (Proc.devRef .tc main_arg1) = (W (Proc.devRef .tc main_arg1)) := by
  simp only [hostOps0]
  after_results

theorem u_arg2 (W : Valuation τ sig (Elt Ideal)) : StableHlo.after (Val := Elt Ideal) hostOps0 W (Proc.devRef .tc main_arg2) = (W (Proc.devRef .tc main_arg2)) := by
  simp only [hostOps0]
  after_results

theorem u_1_arg1 (W : Valuation τ sig (Elt Ideal)) : StableHlo.after (Val := Elt Ideal) hostOps0_1 W (Proc.devRef .tc main_arg1) = (W (Proc.devRef .tc main_arg1)) := by
  simp only [hostOps0_1]
  after_results

theorem u_1_arg2 (W : Valuation τ sig (Elt Ideal)) : StableHlo.after (Val := Elt Ideal) hostOps0_1 W (Proc.devRef .tc main_arg2) = (W (Proc.devRef .tc main_arg2)) := by
  simp only [hostOps0_1]
  after_results

theorem u_2_arg1 (W : Valuation τ sig (Elt Ideal)) : StableHlo.after (Val := Elt Ideal) hostOps0_2 W (Proc.devRef .tc main_arg1) = (W (Proc.devRef .tc main_arg1)) := by
  simp only [hostOps0_2]
  after_results

theorem u_2_arg2 (W : Valuation τ sig (Elt Ideal)) : StableHlo.after (Val := Elt Ideal) hostOps0_2 W (Proc.devRef .tc main_arg2) = (W (Proc.devRef .tc main_arg2)) := by
  simp only [hostOps0_2]
  after_results

theorem u_3_arg2 (W : Valuation τ sig (Elt Ideal)) : StableHlo.after (Val := Elt Ideal) hostOps0_3 W (Proc.devRef .tc main_arg2) = (W (Proc.devRef .tc main_arg2)) := by
  simp only [hostOps0_3]
  after_results

theorem u_3_v20 (W : Valuation τ sig (Elt Ideal)) : StableHlo.after (Val := Elt Ideal) hostOps0_3 W (Proc.devRef .tc main_v20) = (W (Proc.devRef .tc main_v20)) := by
  simp only [hostOps0_3]
  after_results

theorem u_4_arg2 (W : Valuation τ sig (Elt Ideal)) : StableHlo.after (Val := Elt Ideal) hostOps0_4 W (Proc.devRef .tc main_arg2) = (W (Proc.devRef .tc main_arg2)) := by
  simp only [hostOps0_4]
  after_results

theorem u_4_v20 (W : Valuation τ sig (Elt Ideal)) : StableHlo.after (Val := Elt Ideal) hostOps0_4 W (Proc.devRef .tc main_v20) = (W (Proc.devRef .tc main_v20)) := by
  simp only [hostOps0_4]
  after_results

theorem u_5_v20 (W : Valuation τ sig (Elt Ideal)) : StableHlo.after (Val := Elt Ideal) hostOps0_5 W (Proc.devRef .tc main_v20) = (W (Proc.devRef .tc main_v20)) := by
  simp only [hostOps0_5]
  after_results

theorem u_5_v41 (W : Valuation τ sig (Elt Ideal)) : StableHlo.after (Val := Elt Ideal) hostOps0_5 W (Proc.devRef .tc main_v41) = (W (Proc.devRef .tc main_v41)) := by
  simp only [hostOps0_5]
  after_results

theorem u_7_v65 (W : Valuation τ sig (Elt Ideal)) : StableHlo.after (Val := Elt Ideal) hostOps0_7 W (Proc.devRef .tc main_v65) = (W (Proc.devRef .tc main_v65)) := by
  simp only [hostOps0_7]
  after_results

theorem u_8_v65 (W : Valuation τ sig (Elt Ideal)) : StableHlo.after (Val := Elt Ideal) hostOps0_8 W (Proc.devRef .tc main_v65) = (W (Proc.devRef .tc main_v65)) := by
  simp only [hostOps0_8]
  after_results

theorem u_9_v65 (W : Valuation τ sig (Elt Ideal)) : StableHlo.after (Val := Elt Ideal) hostOps0_9 W (Proc.devRef .tc main_v65) = (W (Proc.devRef .tc main_v65)) := by
  simp only [hostOps0_9]
  after_results

theorem u_10_v65 (W : Valuation τ sig (Elt Ideal)) : StableHlo.after (Val := Elt Ideal) hostOps0_10 W (Proc.devRef .tc main_v65) = (W (Proc.devRef .tc main_v65)) := by
  simp only [hostOps0_10]
  after_results

theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem e65 (c : Dev nD) : V m c main_v65 = x9 (m ((c : Thread nD τ).loc main_arg0)) (m ((c : Thread nD τ).loc main_arg1)) (m ((c : Thread nD τ).loc main_arg2)) := by
  show StableHlo.after (Val := Elt Ideal) [hostOps0, hostOps0_1, hostOps0_2, hostOps0_3, hostOps0_4, hostOps0_5, hostOps0_6, hostOps0_7, hostOps0_8, hostOps0_9, hostOps0_10].flatten _ _ = _
  rw [List.flatten_cons, after_app, List.flatten_cons, after_app, List.flatten_cons, after_app, List.flatten_cons, after_app, List.flatten_cons, after_app, List.flatten_cons, after_app,
    List.flatten_cons, after_app, List.flatten_cons, after_app, List.flatten_cons, after_app, List.flatten_cons, after_app, List.flatten_cons, after_app, List.flatten_nil, StableHlo.after_nil]
  rw [u_10_v65, u_9_v65, u_8_v65, u_7_v65, q2, p2, u_5_v20, u_5_v41, u_4_v20, u_3_v20, q0, p0, l0, q1, p1, q0c, q1c,
    u_4_arg2, u_3_arg2, u_2_arg2, u_1_arg2, u_arg2, u_2_arg1, u_1_arg1, u_arg1, u_arg0]
  rfl

end Cert.Heads

end
-- ==== Proof.HRef.lean ====
module

public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem

namespace Cert.HeadsRef

open Cert.Reference2Ideal Cert.Reference2Ideal.Gen Cert.Reference2Ideal.Read

theorem sum_nine (f : Fin 9 → EReal) : ∑ t : Fin 9, f t = f 0 + f 1 + f 2 + f 3 + f 4 + f 5 + f 6 + f 7 + f 8 := by
  rw [Fin.sum_univ_castSucc, Fin.sum_univ_eight]
  rfl

theorem zero_bits : (FloatOps.ofBits .f32 0x00000000#32 : Ideal .f32) = 0 := by
  simp

/-- The fifteen rows of output weights: the class rows, then the box rows. -/
def whead (cw : FVec Ideal S3x256x1x1 .f32) (rw' : FVec Ideal S12x256x1x1 .f32) (r : Fin 15) (o : Fin 256) : EReal :=
  if h : r.val < 3 then cw (ix4 ⟨r.val, h⟩ o 0 0) else rw' (ix4 ⟨r.val - 3, by omega⟩ o 0 0)

def bhead (cl : FVec Ideal S3 .f32) (rb : FVec Ideal S12 .f32) (r : Fin 15) : EReal :=
  if h : r.val < 3 then cl (ix1 ⟨r.val, h⟩) else rb (ix1 ⟨r.val - 3, by omega⟩)

/-- The rectified hidden layer at one position: nine shifted products over the padded feature map. -/
def hid64 (xp : FVec Ideal S2x256x66x66 .f32) (w : FVec Ideal S256x256x3x3 .f32) (cb : FVec Ideal S256 .f32) (b : Fin 2) (o : Fin 256) (y x : Fin 64) : EReal :=
  max ((∑ t : Fin 9, ∑ c : Fin 256, w (ix4 o c ⟨t.val / 3, by omega⟩ ⟨t.val % 3, by omega⟩) * xp (ix4 b c ⟨y.val + t.val / 3, by omega⟩ ⟨x.val + t.val % 3, by omega⟩)) + cb (ix1 o)) 0

theorem tap64_0 (f : FVec Ideal S2x256x64x64 .f32) (w : FVec Ideal S256x256x3x3 .f32) (b : Fin 2) (o : Fin 256) (y x : Fin 64) :
    val_main_v5 (F := Ideal) f w (ix4 b o y x) = ∑ c : Fin 256, w (ix4 o c ⟨0, by omega⟩ ⟨0, by omega⟩) * val_main_v0 (F := Ideal) f (ix4 b c ⟨y.val + 0, by omega⟩ ⟨x.val + 0, by omega⟩) := by
  rw [val_main_v5_apply, val_main_v4_apply]
  refine Finset.sum_congr rfl fun c _ => ?_
  rw [mul_comm, val_main_v2_apply, val_main_v1_apply, val_main_v3_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v0 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap64_1 (f : FVec Ideal S2x256x64x64 .f32) (w : FVec Ideal S256x256x3x3 .f32) (b : Fin 2) (o : Fin 256) (y x : Fin 64) :
    val_main_v10 (F := Ideal) f w (ix4 b o y x) = ∑ c : Fin 256, w (ix4 o c ⟨0, by omega⟩ ⟨1, by omega⟩) * val_main_v0 (F := Ideal) f (ix4 b c ⟨y.val + 0, by omega⟩ ⟨x.val + 1, by omega⟩) := by
  rw [val_main_v10_apply, val_main_v9_apply]
  refine Finset.sum_congr rfl fun c _ => ?_
  rw [mul_comm, val_main_v7_apply, val_main_v6_apply, val_main_v8_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v0 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap64_2 (f : FVec Ideal S2x256x64x64 .f32) (w : FVec Ideal S256x256x3x3 .f32) (b : Fin 2) (o : Fin 256) (y x : Fin 64) :
    val_main_v16 (F := Ideal) f w (ix4 b o y x) = ∑ c : Fin 256, w (ix4 o c ⟨0, by omega⟩ ⟨2, by omega⟩) * val_main_v0 (F := Ideal) f (ix4 b c ⟨y.val + 0, by omega⟩ ⟨x.val + 2, by omega⟩) := by
  rw [val_main_v16_apply, val_main_v15_apply]
  refine Finset.sum_congr rfl fun c _ => ?_
  rw [mul_comm, val_main_v13_apply, val_main_v12_apply, val_main_v14_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v0 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap64_3 (f : FVec Ideal S2x256x64x64 .f32) (w : FVec Ideal S256x256x3x3 .f32) (b : Fin 2) (o : Fin 256) (y x : Fin 64) :
    val_main_v22 (F := Ideal) f w (ix4 b o y x) = ∑ c : Fin 256, w (ix4 o c ⟨1, by omega⟩ ⟨0, by omega⟩) * val_main_v0 (F := Ideal) f (ix4 b c ⟨y.val + 1, by omega⟩ ⟨x.val + 0, by omega⟩) := by
  rw [val_main_v22_apply, val_main_v21_apply]
  refine Finset.sum_congr rfl fun c _ => ?_
  rw [mul_comm, val_main_v19_apply, val_main_v18_apply, val_main_v20_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v0 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap64_4 (f : FVec Ideal S2x256x64x64 .f32) (w : FVec Ideal S256x256x3x3 .f32) (b : Fin 2) (o : Fin 256) (y x : Fin 64) :
    val_main_v28 (F := Ideal) f w (ix4 b o y x) = ∑ c : Fin 256, w (ix4 o c ⟨1, by omega⟩ ⟨1, by omega⟩) * val_main_v0 (F := Ideal) f (ix4 b c ⟨y.val + 1, by omega⟩ ⟨x.val + 1, by omega⟩) := by
  rw [val_main_v28_apply, val_main_v27_apply]
  refine Finset.sum_congr rfl fun c _ => ?_
  rw [mul_comm, val_main_v25_apply, val_main_v24_apply, val_main_v26_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v0 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap64_5 (f : FVec Ideal S2x256x64x64 .f32) (w : FVec Ideal S256x256x3x3 .f32) (b : Fin 2) (o : Fin 256) (y x : Fin 64) :
    val_main_v34 (F := Ideal) f w (ix4 b o y x) = ∑ c : Fin 256, w (ix4 o c ⟨1, by omega⟩ ⟨2, by omega⟩) * val_main_v0 (F := Ideal) f (ix4 b c ⟨y.val + 1, by omega⟩ ⟨x.val + 2, by omega⟩) := by
  rw [val_main_v34_apply, val_main_v33_apply]
  refine Finset.sum_congr rfl fun c _ => ?_
  rw [mul_comm, val_main_v31_apply, val_main_v30_apply, val_main_v32_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v0 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap64_6 (f : FVec Ideal S2x256x64x64 .f32) (w : FVec Ideal S256x256x3x3 .f32) (b : Fin 2) (o : Fin 256) (y x : Fin 64) :
    val_main_v40 (F := Ideal) f w (ix4 b o y x) = ∑ c : Fin 256, w (ix4 o c ⟨2, by omega⟩ ⟨0, by omega⟩) * val_main_v0 (F := Ideal) f (ix4 b c ⟨y.val + 2, by omega⟩ ⟨x.val + 0, by omega⟩) := by
  rw [val_main_v40_apply, val_main_v39_apply]
  refine Finset.sum_congr rfl fun c _ => ?_
  rw [mul_comm, val_main_v37_apply, val_main_v36_apply, val_main_v38_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v0 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap64_7 (f : FVec Ideal S2x256x64x64 .f32) (w : FVec Ideal S256x256x3x3 .f32) (b : Fin 2) (o : Fin 256) (y x : Fin 64) :
    val_main_v46 (F := Ideal) f w (ix4 b o y x) = ∑ c : Fin 256, w (ix4 o c ⟨2, by omega⟩ ⟨1, by omega⟩) * val_main_v0 (F := Ideal) f (ix4 b c ⟨y.val + 2, by omega⟩ ⟨x.val + 1, by omega⟩) := by
  rw [val_main_v46_apply, val_main_v45_apply]
  refine Finset.sum_congr rfl fun c _ => ?_
  rw [mul_comm, val_main_v43_apply, val_main_v42_apply, val_main_v44_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v0 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap64_8 (f : FVec Ideal S2x256x64x64 .f32) (w : FVec Ideal S256x256x3x3 .f32) (b : Fin 2) (o : Fin 256) (y x : Fin 64) :
    val_main_v52 (F := Ideal) f w (ix4 b o y x) = ∑ c : Fin 256, w (ix4 o c ⟨2, by omega⟩ ⟨2, by omega⟩) * val_main_v0 (F := Ideal) f (ix4 b c ⟨y.val + 2, by omega⟩ ⟨x.val + 2, by omega⟩) := by
  rw [val_main_v52_apply, val_main_v51_apply]
  refine Finset.sum_congr rfl fun c _ => ?_
  rw [mul_comm, val_main_v49_apply, val_main_v48_apply, val_main_v50_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v0 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem ref_hid64 (f : FVec Ideal S2x256x64x64 .f32) (w : FVec Ideal S256x256x3x3 .f32) (cb : FVec Ideal S256 .f32) (b : Fin 2) (o : Fin 256) (y x : Fin 64) :
    val_main_v58 (F := Ideal) f w cb (ix4 b o y x) = hid64 (val_main_v0 (F := Ideal) f) w cb b o y x := by
  rw [val_main_v58_apply, val_main_v56_apply, val_main_v53_apply, val_main_v47_apply, val_main_v41_apply, val_main_v35_apply, val_main_v29_apply, val_main_v23_apply, val_main_v17_apply, val_main_v11_apply, tap64_0, tap64_1, tap64_2, tap64_3, tap64_4, tap64_5, tap64_6, tap64_7, tap64_8,
    val_main_v55_apply, val_main_v54_apply, val_main_v57_apply]
  unfold hid64
  rw [sum_nine]
  exact congrArg₂ max (congrArg₂ (· + ·) rfl (congrArg cb (funext fun a => match a with
    | ⟨0, _⟩ => Fin.ext (by show ((0 * 256 + o.val) * 1 + 0) * 1 + 0 = o.val; omega)))) zero_bits

theorem ref_cls64 (f : FVec Ideal S2x256x64x64 .f32) (w : FVec Ideal S256x256x3x3 .f32) (cb : FVec Ideal S256 .f32) (hw : FVec Ideal S3x256x1x1 .f32) (hb : FVec Ideal S3 .f32) (b : Fin 2) (r : Fin 3) (y x : Fin 64) :
    val_main_v64 (F := Ideal) f w cb hw hb (ix4 b r y x) = (∑ o : Fin 256, hw (ix4 r o 0 0) * hid64 (val_main_v0 (F := Ideal) f) w cb b o y x) + hb (ix1 r) := by
  rw [val_main_v64_apply, val_main_v61_apply, val_main_v60_apply, val_main_v63_apply, val_main_v62_apply]
  refine congrArg₂ (· + ·) (Finset.sum_congr rfl fun o _ => ?_) (congrArg hb (funext fun a => match a with
    | ⟨0, _⟩ => Fin.ext (by show ((0 * 3 + r.val) * 1 + 0) * 1 + 0 = r.val; omega)))
  rw [mul_comm, val_main_v59_apply]
  refine congrArg₂ (· * ·) (congrArg hw (funext fun a => match a with
      | ⟨0, _⟩ => Fin.ext (by show (r.val * 256 + o.val) / 256 = r.val; omega)
      | ⟨1, _⟩ => Fin.ext (by show (r.val * 256 + o.val) / 1 % 256 = o.val; omega)
      | ⟨2, _⟩ => Fin.ext rfl
      | ⟨3, _⟩ => Fin.ext rfl)) ?_
  rw [← ref_hid64]
  exact congrArg (val_main_v58 (F := Ideal) f w cb) (funext fun a => match a with
      | ⟨0, _⟩ => Fin.ext rfl
      | ⟨1, _⟩ => Fin.ext rfl
      | ⟨2, _⟩ => Fin.ext rfl
      | ⟨3, _⟩ => Fin.ext rfl)

theorem ref_reg64 (f : FVec Ideal S2x256x64x64 .f32) (w : FVec Ideal S256x256x3x3 .f32) (cb : FVec Ideal S256 .f32) (hw : FVec Ideal S12x256x1x1 .f32) (hb : FVec Ideal S12 .f32) (b : Fin 2) (r : Fin 12) (y x : Fin 64) :
    val_main_v70 (F := Ideal) f w cb hw hb (ix4 b r y x) = (∑ o : Fin 256, hw (ix4 r o 0 0) * hid64 (val_main_v0 (F := Ideal) f) w cb b o y x) + hb (ix1 r) := by
  rw [val_main_v70_apply, val_main_v67_apply, val_main_v66_apply, val_main_v69_apply, val_main_v68_apply]
  refine congrArg₂ (· + ·) (Finset.sum_congr rfl fun o _ => ?_) (congrArg hb (funext fun a => match a with
    | ⟨0, _⟩ => Fin.ext (by show ((0 * 12 + r.val) * 1 + 0) * 1 + 0 = r.val; omega)))
  rw [mul_comm, val_main_v65_apply]
  refine congrArg₂ (· * ·) (congrArg hw (funext fun a => match a with
      | ⟨0, _⟩ => Fin.ext (by show (r.val * 256 + o.val) / 256 = r.val; omega)
      | ⟨1, _⟩ => Fin.ext (by show (r.val * 256 + o.val) / 1 % 256 = o.val; omega)
      | ⟨2, _⟩ => Fin.ext rfl
      | ⟨3, _⟩ => Fin.ext rfl)) ?_
  rw [← ref_hid64]
  exact congrArg (val_main_v58 (F := Ideal) f w cb) (funext fun a => match a with
      | ⟨0, _⟩ => Fin.ext rfl
      | ⟨1, _⟩ => Fin.ext rfl
      | ⟨2, _⟩ => Fin.ext rfl
      | ⟨3, _⟩ => Fin.ext rfl)

theorem ref_row64 (f : FVec Ideal S2x256x64x64 .f32) (w : FVec Ideal S256x256x3x3 .f32) (cb : FVec Ideal S256 .f32) (cw : FVec Ideal S3x256x1x1 .f32) (cl : FVec Ideal S3 .f32)
    (rw' : FVec Ideal S12x256x1x1 .f32) (rb : FVec Ideal S12 .f32) (b : Fin 2) (r : Fin 15) (p : Fin 4096) (y x : Fin 64) (hp : p.val = 64 * y.val + x.val) :
    val_main_v72 (F := Ideal) f w cb cw cl rw' rb (ix3 b r p) = (∑ o : Fin 256, whead cw rw' r o * hid64 (val_main_v0 (F := Ideal) f) w cb b o y x) + bhead cl rb r := by
  rw [val_main_v72_apply]
  have e : idx_main_v72 (ix3 b r p) = ix4 b r y x := funext fun a => match a with
    | ⟨0, _⟩ => Fin.ext (by show ((b.val * 15 + r.val) * 4096 + p.val) / 61440 = b.val; omega)
    | ⟨1, _⟩ => Fin.ext (by show ((b.val * 15 + r.val) * 4096 + p.val) / 4096 % 15 = r.val; omega)
    | ⟨2, _⟩ => Fin.ext (by show ((b.val * 15 + r.val) * 4096 + p.val) / 64 % 64 = y.val; omega)
    | ⟨3, _⟩ => Fin.ext (by show ((b.val * 15 + r.val) * 4096 + p.val) % 64 = x.val; omega)
  rw [e]
  unfold val_main_v71 whead bhead
  by_cases h : r.val < 3
  · simp only [dif_pos h]
    rw [← ref_cls64]
    exact concatenate_pair_apply_left (t := S2x15x64x64) (s₁ := S2x3x64x64) (s₂ := S2x12x64x64) 1 _ _ _ (ix4 b r y x) rfl (ix4 b ⟨r.val, h⟩ y x) (fun a => match a with
      | ⟨0, _⟩ => rfl
      | ⟨1, _⟩ => rfl
      | ⟨2, _⟩ => rfl
      | ⟨3, _⟩ => rfl)
  · simp only [dif_neg h]
    rw [← ref_reg64]
    exact concatenate_pair_apply_right (t := S2x15x64x64) (s₁ := S2x3x64x64) (s₂ := S2x12x64x64) 1 _ _ _ (ix4 b r y x) rfl rfl (ix4 b ⟨r.val - 3, by omega⟩ y x) (fun a h => match a, h with
      | ⟨0, _⟩, _ => rfl
      | ⟨1, _⟩, h => absurd rfl h
      | ⟨2, _⟩, _ => rfl
      | ⟨3, _⟩, _ => rfl) (by show r.val - 3 + 3 = r.val; omega)

/-- The rectified hidden layer at one position: nine shifted products over the padded feature map. -/
def hid32 (xp : FVec Ideal S2x256x34x34 .f32) (w : FVec Ideal S256x256x3x3 .f32) (cb : FVec Ideal S256 .f32) (b : Fin 2) (o : Fin 256) (y x : Fin 32) : EReal :=
  max ((∑ t : Fin 9, ∑ c : Fin 256, w (ix4 o c ⟨t.val / 3, by omega⟩ ⟨t.val % 3, by omega⟩) * xp (ix4 b c ⟨y.val + t.val / 3, by omega⟩ ⟨x.val + t.val % 3, by omega⟩)) + cb (ix1 o)) 0

theorem tap32_0 (f : FVec Ideal S2x256x32x32 .f32) (w : FVec Ideal S256x256x3x3 .f32) (b : Fin 2) (o : Fin 256) (y x : Fin 32) :
    val_main_v78 (F := Ideal) f w (ix4 b o y x) = ∑ c : Fin 256, w (ix4 o c ⟨0, by omega⟩ ⟨0, by omega⟩) * val_main_v73 (F := Ideal) f (ix4 b c ⟨y.val + 0, by omega⟩ ⟨x.val + 0, by omega⟩) := by
  rw [val_main_v78_apply, val_main_v77_apply]
  refine Finset.sum_congr rfl fun c _ => ?_
  rw [mul_comm, val_main_v75_apply, val_main_v74_apply, val_main_v76_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v73 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap32_1 (f : FVec Ideal S2x256x32x32 .f32) (w : FVec Ideal S256x256x3x3 .f32) (b : Fin 2) (o : Fin 256) (y x : Fin 32) :
    val_main_v83 (F := Ideal) f w (ix4 b o y x) = ∑ c : Fin 256, w (ix4 o c ⟨0, by omega⟩ ⟨1, by omega⟩) * val_main_v73 (F := Ideal) f (ix4 b c ⟨y.val + 0, by omega⟩ ⟨x.val + 1, by omega⟩) := by
  rw [val_main_v83_apply, val_main_v82_apply]
  refine Finset.sum_congr rfl fun c _ => ?_
  rw [mul_comm, val_main_v80_apply, val_main_v79_apply, val_main_v81_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v73 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap32_2 (f : FVec Ideal S2x256x32x32 .f32) (w : FVec Ideal S256x256x3x3 .f32) (b : Fin 2) (o : Fin 256) (y x : Fin 32) :
    val_main_v89 (F := Ideal) f w (ix4 b o y x) = ∑ c : Fin 256, w (ix4 o c ⟨0, by omega⟩ ⟨2, by omega⟩) * val_main_v73 (F := Ideal) f (ix4 b c ⟨y.val + 0, by omega⟩ ⟨x.val + 2, by omega⟩) := by
  rw [val_main_v89_apply, val_main_v88_apply]
  refine Finset.sum_congr rfl fun c _ => ?_
  rw [mul_comm, val_main_v86_apply, val_main_v85_apply, val_main_v87_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v73 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap32_3 (f : FVec Ideal S2x256x32x32 .f32) (w : FVec Ideal S256x256x3x3 .f32) (b : Fin 2) (o : Fin 256) (y x : Fin 32) :
    val_main_v95 (F := Ideal) f w (ix4 b o y x) = ∑ c : Fin 256, w (ix4 o c ⟨1, by omega⟩ ⟨0, by omega⟩) * val_main_v73 (F := Ideal) f (ix4 b c ⟨y.val + 1, by omega⟩ ⟨x.val + 0, by omega⟩) := by
  rw [val_main_v95_apply, val_main_v94_apply]
  refine Finset.sum_congr rfl fun c _ => ?_
  rw [mul_comm, val_main_v92_apply, val_main_v91_apply, val_main_v93_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v73 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap32_4 (f : FVec Ideal S2x256x32x32 .f32) (w : FVec Ideal S256x256x3x3 .f32) (b : Fin 2) (o : Fin 256) (y x : Fin 32) :
    val_main_v101 (F := Ideal) f w (ix4 b o y x) = ∑ c : Fin 256, w (ix4 o c ⟨1, by omega⟩ ⟨1, by omega⟩) * val_main_v73 (F := Ideal) f (ix4 b c ⟨y.val + 1, by omega⟩ ⟨x.val + 1, by omega⟩) := by
  rw [val_main_v101_apply, val_main_v100_apply]
  refine Finset.sum_congr rfl fun c _ => ?_
  rw [mul_comm, val_main_v98_apply, val_main_v97_apply, val_main_v99_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v73 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap32_5 (f : FVec Ideal S2x256x32x32 .f32) (w : FVec Ideal S256x256x3x3 .f32) (b : Fin 2) (o : Fin 256) (y x : Fin 32) :
    val_main_v107 (F := Ideal) f w (ix4 b o y x) = ∑ c : Fin 256, w (ix4 o c ⟨1, by omega⟩ ⟨2, by omega⟩) * val_main_v73 (F := Ideal) f (ix4 b c ⟨y.val + 1, by omega⟩ ⟨x.val + 2, by omega⟩) := by
  rw [val_main_v107_apply, val_main_v106_apply]
  refine Finset.sum_congr rfl fun c _ => ?_
  rw [mul_comm, val_main_v104_apply, val_main_v103_apply, val_main_v105_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v73 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap32_6 (f : FVec Ideal S2x256x32x32 .f32) (w : FVec Ideal S256x256x3x3 .f32) (b : Fin 2) (o : Fin 256) (y x : Fin 32) :
    val_main_v113 (F := Ideal) f w (ix4 b o y x) = ∑ c : Fin 256, w (ix4 o c ⟨2, by omega⟩ ⟨0, by omega⟩) * val_main_v73 (F := Ideal) f (ix4 b c ⟨y.val + 2, by omega⟩ ⟨x.val + 0, by omega⟩) := by
  rw [val_main_v113_apply, val_main_v112_apply]
  refine Finset.sum_congr rfl fun c _ => ?_
  rw [mul_comm, val_main_v110_apply, val_main_v109_apply, val_main_v111_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v73 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap32_7 (f : FVec Ideal S2x256x32x32 .f32) (w : FVec Ideal S256x256x3x3 .f32) (b : Fin 2) (o : Fin 256) (y x : Fin 32) :
    val_main_v119 (F := Ideal) f w (ix4 b o y x) = ∑ c : Fin 256, w (ix4 o c ⟨2, by omega⟩ ⟨1, by omega⟩) * val_main_v73 (F := Ideal) f (ix4 b c ⟨y.val + 2, by omega⟩ ⟨x.val + 1, by omega⟩) := by
  rw [val_main_v119_apply, val_main_v118_apply]
  refine Finset.sum_congr rfl fun c _ => ?_
  rw [mul_comm, val_main_v116_apply, val_main_v115_apply, val_main_v117_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v73 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap32_8 (f : FVec Ideal S2x256x32x32 .f32) (w : FVec Ideal S256x256x3x3 .f32) (b : Fin 2) (o : Fin 256) (y x : Fin 32) :
    val_main_v125 (F := Ideal) f w (ix4 b o y x) = ∑ c : Fin 256, w (ix4 o c ⟨2, by omega⟩ ⟨2, by omega⟩) * val_main_v73 (F := Ideal) f (ix4 b c ⟨y.val + 2, by omega⟩ ⟨x.val + 2, by omega⟩) := by
  rw [val_main_v125_apply, val_main_v124_apply]
  refine Finset.sum_congr rfl fun c _ => ?_
  rw [mul_comm, val_main_v122_apply, val_main_v121_apply, val_main_v123_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v73 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem ref_hid32 (f : FVec Ideal S2x256x32x32 .f32) (w : FVec Ideal S256x256x3x3 .f32) (cb : FVec Ideal S256 .f32) (b : Fin 2) (o : Fin 256) (y x : Fin 32) :
    val_main_v131 (F := Ideal) f w cb (ix4 b o y x) = hid32 (val_main_v73 (F := Ideal) f) w cb b o y x := by
  rw [val_main_v131_apply, val_main_v129_apply, val_main_v126_apply, val_main_v120_apply, val_main_v114_apply, val_main_v108_apply, val_main_v102_apply, val_main_v96_apply, val_main_v90_apply, val_main_v84_apply, tap32_0, tap32_1, tap32_2, tap32_3, tap32_4, tap32_5, tap32_6, tap32_7, tap32_8,
    val_main_v128_apply, val_main_v127_apply, val_main_v130_apply]
  unfold hid32
  rw [sum_nine]
  exact congrArg₂ max (congrArg₂ (· + ·) rfl (congrArg cb (funext fun a => match a with
    | ⟨0, _⟩ => Fin.ext (by show ((0 * 256 + o.val) * 1 + 0) * 1 + 0 = o.val; omega)))) zero_bits

theorem ref_cls32 (f : FVec Ideal S2x256x32x32 .f32) (w : FVec Ideal S256x256x3x3 .f32) (cb : FVec Ideal S256 .f32) (hw : FVec Ideal S3x256x1x1 .f32) (hb : FVec Ideal S3 .f32) (b : Fin 2) (r : Fin 3) (y x : Fin 32) :
    val_main_v137 (F := Ideal) f w cb hw hb (ix4 b r y x) = (∑ o : Fin 256, hw (ix4 r o 0 0) * hid32 (val_main_v73 (F := Ideal) f) w cb b o y x) + hb (ix1 r) := by
  rw [val_main_v137_apply, val_main_v134_apply, val_main_v133_apply, val_main_v136_apply, val_main_v135_apply]
  refine congrArg₂ (· + ·) (Finset.sum_congr rfl fun o _ => ?_) (congrArg hb (funext fun a => match a with
    | ⟨0, _⟩ => Fin.ext (by show ((0 * 3 + r.val) * 1 + 0) * 1 + 0 = r.val; omega)))
  rw [mul_comm, val_main_v132_apply]
  refine congrArg₂ (· * ·) (congrArg hw (funext fun a => match a with
      | ⟨0, _⟩ => Fin.ext (by show (r.val * 256 + o.val) / 256 = r.val; omega)
      | ⟨1, _⟩ => Fin.ext (by show (r.val * 256 + o.val) / 1 % 256 = o.val; omega)
      | ⟨2, _⟩ => Fin.ext rfl
      | ⟨3, _⟩ => Fin.ext rfl)) ?_
  rw [← ref_hid32]
  exact congrArg (val_main_v131 (F := Ideal) f w cb) (funext fun a => match a with
      | ⟨0, _⟩ => Fin.ext rfl
      | ⟨1, _⟩ => Fin.ext rfl
      | ⟨2, _⟩ => Fin.ext rfl
      | ⟨3, _⟩ => Fin.ext rfl)

theorem ref_reg32 (f : FVec Ideal S2x256x32x32 .f32) (w : FVec Ideal S256x256x3x3 .f32) (cb : FVec Ideal S256 .f32) (hw : FVec Ideal S12x256x1x1 .f32) (hb : FVec Ideal S12 .f32) (b : Fin 2) (r : Fin 12) (y x : Fin 32) :
    val_main_v143 (F := Ideal) f w cb hw hb (ix4 b r y x) = (∑ o : Fin 256, hw (ix4 r o 0 0) * hid32 (val_main_v73 (F := Ideal) f) w cb b o y x) + hb (ix1 r) := by
  rw [val_main_v143_apply, val_main_v140_apply, val_main_v139_apply, val_main_v142_apply, val_main_v141_apply]
  refine congrArg₂ (· + ·) (Finset.sum_congr rfl fun o _ => ?_) (congrArg hb (funext fun a => match a with
    | ⟨0, _⟩ => Fin.ext (by show ((0 * 12 + r.val) * 1 + 0) * 1 + 0 = r.val; omega)))
  rw [mul_comm, val_main_v138_apply]
  refine congrArg₂ (· * ·) (congrArg hw (funext fun a => match a with
      | ⟨0, _⟩ => Fin.ext (by show (r.val * 256 + o.val) / 256 = r.val; omega)
      | ⟨1, _⟩ => Fin.ext (by show (r.val * 256 + o.val) / 1 % 256 = o.val; omega)
      | ⟨2, _⟩ => Fin.ext rfl
      | ⟨3, _⟩ => Fin.ext rfl)) ?_
  rw [← ref_hid32]
  exact congrArg (val_main_v131 (F := Ideal) f w cb) (funext fun a => match a with
      | ⟨0, _⟩ => Fin.ext rfl
      | ⟨1, _⟩ => Fin.ext rfl
      | ⟨2, _⟩ => Fin.ext rfl
      | ⟨3, _⟩ => Fin.ext rfl)

theorem ref_row32 (f : FVec Ideal S2x256x32x32 .f32) (w : FVec Ideal S256x256x3x3 .f32) (cb : FVec Ideal S256 .f32) (cw : FVec Ideal S3x256x1x1 .f32) (cl : FVec Ideal S3 .f32)
    (rw' : FVec Ideal S12x256x1x1 .f32) (rb : FVec Ideal S12 .f32) (b : Fin 2) (r : Fin 15) (p : Fin 1024) (y x : Fin 32) (hp : p.val = 32 * y.val + x.val) :
    val_main_v145 (F := Ideal) f w cb cw cl rw' rb (ix3 b r p) = (∑ o : Fin 256, whead cw rw' r o * hid32 (val_main_v73 (F := Ideal) f) w cb b o y x) + bhead cl rb r := by
  rw [val_main_v145_apply]
  have e : idx_main_v145 (ix3 b r p) = ix4 b r y x := funext fun a => match a with
    | ⟨0, _⟩ => Fin.ext (by show ((b.val * 15 + r.val) * 1024 + p.val) / 15360 = b.val; omega)
    | ⟨1, _⟩ => Fin.ext (by show ((b.val * 15 + r.val) * 1024 + p.val) / 1024 % 15 = r.val; omega)
    | ⟨2, _⟩ => Fin.ext (by show ((b.val * 15 + r.val) * 1024 + p.val) / 32 % 32 = y.val; omega)
    | ⟨3, _⟩ => Fin.ext (by show ((b.val * 15 + r.val) * 1024 + p.val) % 32 = x.val; omega)
  rw [e]
  unfold val_main_v144 whead bhead
  by_cases h : r.val < 3
  · simp only [dif_pos h]
    rw [← ref_cls32]
    exact concatenate_pair_apply_left (t := S2x15x32x32) (s₁ := S2x3x32x32) (s₂ := S2x12x32x32) 1 _ _ _ (ix4 b r y x) rfl (ix4 b ⟨r.val, h⟩ y x) (fun a => match a with
      | ⟨0, _⟩ => rfl
      | ⟨1, _⟩ => rfl
      | ⟨2, _⟩ => rfl
      | ⟨3, _⟩ => rfl)
  · simp only [dif_neg h]
    rw [← ref_reg32]
    exact concatenate_pair_apply_right (t := S2x15x32x32) (s₁ := S2x3x32x32) (s₂ := S2x12x32x32) 1 _ _ _ (ix4 b r y x) rfl rfl (ix4 b ⟨r.val - 3, by omega⟩ y x) (fun a h => match a, h with
      | ⟨0, _⟩, _ => rfl
      | ⟨1, _⟩, h => absurd rfl h
      | ⟨2, _⟩, _ => rfl
      | ⟨3, _⟩, _ => rfl) (by show r.val - 3 + 3 = r.val; omega)

/-- The rectified hidden layer at one position: nine shifted products over the padded feature map. -/
def hid16 (xp : FVec Ideal S2x256x18x18 .f32) (w : FVec Ideal S256x256x3x3 .f32) (cb : FVec Ideal S256 .f32) (b : Fin 2) (o : Fin 256) (y x : Fin 16) : EReal :=
  max ((∑ t : Fin 9, ∑ c : Fin 256, w (ix4 o c ⟨t.val / 3, by omega⟩ ⟨t.val % 3, by omega⟩) * xp (ix4 b c ⟨y.val + t.val / 3, by omega⟩ ⟨x.val + t.val % 3, by omega⟩)) + cb (ix1 o)) 0

theorem tap16_0 (f : FVec Ideal S2x256x16x16 .f32) (w : FVec Ideal S256x256x3x3 .f32) (b : Fin 2) (o : Fin 256) (y x : Fin 16) :
    val_main_v151 (F := Ideal) f w (ix4 b o y x) = ∑ c : Fin 256, w (ix4 o c ⟨0, by omega⟩ ⟨0, by omega⟩) * val_main_v146 (F := Ideal) f (ix4 b c ⟨y.val + 0, by omega⟩ ⟨x.val + 0, by omega⟩) := by
  rw [val_main_v151_apply, val_main_v150_apply]
  refine Finset.sum_congr rfl fun c _ => ?_
  rw [mul_comm, val_main_v148_apply, val_main_v147_apply, val_main_v149_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v146 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap16_1 (f : FVec Ideal S2x256x16x16 .f32) (w : FVec Ideal S256x256x3x3 .f32) (b : Fin 2) (o : Fin 256) (y x : Fin 16) :
    val_main_v156 (F := Ideal) f w (ix4 b o y x) = ∑ c : Fin 256, w (ix4 o c ⟨0, by omega⟩ ⟨1, by omega⟩) * val_main_v146 (F := Ideal) f (ix4 b c ⟨y.val + 0, by omega⟩ ⟨x.val + 1, by omega⟩) := by
  rw [val_main_v156_apply, val_main_v155_apply]
  refine Finset.sum_congr rfl fun c _ => ?_
  rw [mul_comm, val_main_v153_apply, val_main_v152_apply, val_main_v154_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v146 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap16_2 (f : FVec Ideal S2x256x16x16 .f32) (w : FVec Ideal S256x256x3x3 .f32) (b : Fin 2) (o : Fin 256) (y x : Fin 16) :
    val_main_v162 (F := Ideal) f w (ix4 b o y x) = ∑ c : Fin 256, w (ix4 o c ⟨0, by omega⟩ ⟨2, by omega⟩) * val_main_v146 (F := Ideal) f (ix4 b c ⟨y.val + 0, by omega⟩ ⟨x.val + 2, by omega⟩) := by
  rw [val_main_v162_apply, val_main_v161_apply]
  refine Finset.sum_congr rfl fun c _ => ?_
  rw [mul_comm, val_main_v159_apply, val_main_v158_apply, val_main_v160_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v146 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap16_3 (f : FVec Ideal S2x256x16x16 .f32) (w : FVec Ideal S256x256x3x3 .f32) (b : Fin 2) (o : Fin 256) (y x : Fin 16) :
    val_main_v168 (F := Ideal) f w (ix4 b o y x) = ∑ c : Fin 256, w (ix4 o c ⟨1, by omega⟩ ⟨0, by omega⟩) * val_main_v146 (F := Ideal) f (ix4 b c ⟨y.val + 1, by omega⟩ ⟨x.val + 0, by omega⟩) := by
  rw [val_main_v168_apply, val_main_v167_apply]
  refine Finset.sum_congr rfl fun c _ => ?_
  rw [mul_comm, val_main_v165_apply, val_main_v164_apply, val_main_v166_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v146 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap16_4 (f : FVec Ideal S2x256x16x16 .f32) (w : FVec Ideal S256x256x3x3 .f32) (b : Fin 2) (o : Fin 256) (y x : Fin 16) :
    val_main_v174 (F := Ideal) f w (ix4 b o y x) = ∑ c : Fin 256, w (ix4 o c ⟨1, by omega⟩ ⟨1, by omega⟩) * val_main_v146 (F := Ideal) f (ix4 b c ⟨y.val + 1, by omega⟩ ⟨x.val + 1, by omega⟩) := by
  rw [val_main_v174_apply, val_main_v173_apply]
  refine Finset.sum_congr rfl fun c _ => ?_
  rw [mul_comm, val_main_v171_apply, val_main_v170_apply, val_main_v172_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v146 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap16_5 (f : FVec Ideal S2x256x16x16 .f32) (w : FVec Ideal S256x256x3x3 .f32) (b : Fin 2) (o : Fin 256) (y x : Fin 16) :
    val_main_v180 (F := Ideal) f w (ix4 b o y x) = ∑ c : Fin 256, w (ix4 o c ⟨1, by omega⟩ ⟨2, by omega⟩) * val_main_v146 (F := Ideal) f (ix4 b c ⟨y.val + 1, by omega⟩ ⟨x.val + 2, by omega⟩) := by
  rw [val_main_v180_apply, val_main_v179_apply]
  refine Finset.sum_congr rfl fun c _ => ?_
  rw [mul_comm, val_main_v177_apply, val_main_v176_apply, val_main_v178_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v146 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap16_6 (f : FVec Ideal S2x256x16x16 .f32) (w : FVec Ideal S256x256x3x3 .f32) (b : Fin 2) (o : Fin 256) (y x : Fin 16) :
    val_main_v186 (F := Ideal) f w (ix4 b o y x) = ∑ c : Fin 256, w (ix4 o c ⟨2, by omega⟩ ⟨0, by omega⟩) * val_main_v146 (F := Ideal) f (ix4 b c ⟨y.val + 2, by omega⟩ ⟨x.val + 0, by omega⟩) := by
  rw [val_main_v186_apply, val_main_v185_apply]
  refine Finset.sum_congr rfl fun c _ => ?_
  rw [mul_comm, val_main_v183_apply, val_main_v182_apply, val_main_v184_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v146 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap16_7 (f : FVec Ideal S2x256x16x16 .f32) (w : FVec Ideal S256x256x3x3 .f32) (b : Fin 2) (o : Fin 256) (y x : Fin 16) :
    val_main_v192 (F := Ideal) f w (ix4 b o y x) = ∑ c : Fin 256, w (ix4 o c ⟨2, by omega⟩ ⟨1, by omega⟩) * val_main_v146 (F := Ideal) f (ix4 b c ⟨y.val + 2, by omega⟩ ⟨x.val + 1, by omega⟩) := by
  rw [val_main_v192_apply, val_main_v191_apply]
  refine Finset.sum_congr rfl fun c _ => ?_
  rw [mul_comm, val_main_v189_apply, val_main_v188_apply, val_main_v190_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v146 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem tap16_8 (f : FVec Ideal S2x256x16x16 .f32) (w : FVec Ideal S256x256x3x3 .f32) (b : Fin 2) (o : Fin 256) (y x : Fin 16) :
    val_main_v198 (F := Ideal) f w (ix4 b o y x) = ∑ c : Fin 256, w (ix4 o c ⟨2, by omega⟩ ⟨2, by omega⟩) * val_main_v146 (F := Ideal) f (ix4 b c ⟨y.val + 2, by omega⟩ ⟨x.val + 2, by omega⟩) := by
  rw [val_main_v198_apply, val_main_v197_apply]
  refine Finset.sum_congr rfl fun c _ => ?_
  rw [mul_comm, val_main_v195_apply, val_main_v194_apply, val_main_v196_apply]
  exact congrArg₂ (· * ·) (congrArg w (funext fun a => match a with
      | ⟨0, _⟩ => Fin.ext (by show (o.val * 256 + c.val) / 256 = o.val; omega)
      | ⟨1, _⟩ => Fin.ext (by show (o.val * 256 + c.val) / 1 % 256 = c.val; omega)
      | ⟨2, _⟩ => Fin.ext rfl
      | ⟨3, _⟩ => Fin.ext rfl))
    (congrArg (val_main_v146 (F := Ideal) f) (funext fun a => match a with
      | ⟨0, _⟩ => Fin.ext rfl
      | ⟨1, _⟩ => Fin.ext rfl
      | ⟨2, _⟩ => Fin.ext (by first | rfl | exact Nat.add_comm _ _)
      | ⟨3, _⟩ => Fin.ext (by first | rfl | exact Nat.add_comm _ _)))

theorem ref_hid16 (f : FVec Ideal S2x256x16x16 .f32) (w : FVec Ideal S256x256x3x3 .f32) (cb : FVec Ideal S256 .f32) (b : Fin 2) (o : Fin 256) (y x : Fin 16) :
    val_main_v204 (F := Ideal) f w cb (ix4 b o y x) = hid16 (val_main_v146 (F := Ideal) f) w cb b o y x := by
  rw [val_main_v204_apply, val_main_v202_apply, val_main_v199_apply, val_main_v193_apply, val_main_v187_apply, val_main_v181_apply, val_main_v175_apply, val_main_v169_apply, val_main_v163_apply, val_main_v157_apply, tap16_0, tap16_1, tap16_2, tap16_3, tap16_4, tap16_5, tap16_6, tap16_7, tap16_8,
    val_main_v201_apply, val_main_v200_apply, val_main_v203_apply]
  unfold hid16
  rw [sum_nine]
  exact congrArg₂ max (congrArg₂ (· + ·) rfl (congrArg cb (funext fun a => match a with
    | ⟨0, _⟩ => Fin.ext (by show ((0 * 256 + o.val) * 1 + 0) * 1 + 0 = o.val; omega)))) zero_bits

theorem ref_cls16 (f : FVec Ideal S2x256x16x16 .f32) (w : FVec Ideal S256x256x3x3 .f32) (cb : FVec Ideal S256 .f32) (hw : FVec Ideal S3x256x1x1 .f32) (hb : FVec Ideal S3 .f32) (b : Fin 2) (r : Fin 3) (y x : Fin 16) :
    val_main_v210 (F := Ideal) f w cb hw hb (ix4 b r y x) = (∑ o : Fin 256, hw (ix4 r o 0 0) * hid16 (val_main_v146 (F := Ideal) f) w cb b o y x) + hb (ix1 r) := by
  rw [val_main_v210_apply, val_main_v207_apply, val_main_v206_apply, val_main_v209_apply, val_main_v208_apply]
  refine congrArg₂ (· + ·) (Finset.sum_congr rfl fun o _ => ?_) (congrArg hb (funext fun a => match a with
    | ⟨0, _⟩ => Fin.ext (by show ((0 * 3 + r.val) * 1 + 0) * 1 + 0 = r.val; omega)))
  rw [mul_comm, val_main_v205_apply]
  refine congrArg₂ (· * ·) (congrArg hw (funext fun a => match a with
      | ⟨0, _⟩ => Fin.ext (by show (r.val * 256 + o.val) / 256 = r.val; omega)
      | ⟨1, _⟩ => Fin.ext (by show (r.val * 256 + o.val) / 1 % 256 = o.val; omega)
      | ⟨2, _⟩ => Fin.ext rfl
      | ⟨3, _⟩ => Fin.ext rfl)) ?_
  rw [← ref_hid16]
  exact congrArg (val_main_v204 (F := Ideal) f w cb) (funext fun a => match a with
      | ⟨0, _⟩ => Fin.ext rfl
      | ⟨1, _⟩ => Fin.ext rfl
      | ⟨2, _⟩ => Fin.ext rfl
      | ⟨3, _⟩ => Fin.ext rfl)

theorem ref_reg16 (f : FVec Ideal S2x256x16x16 .f32) (w : FVec Ideal S256x256x3x3 .f32) (cb : FVec Ideal S256 .f32) (hw : FVec Ideal S12x256x1x1 .f32) (hb : FVec Ideal S12 .f32) (b : Fin 2) (r : Fin 12) (y x : Fin 16) :
    val_main_v216 (F := Ideal) f w cb hw hb (ix4 b r y x) = (∑ o : Fin 256, hw (ix4 r o 0 0) * hid16 (val_main_v146 (F := Ideal) f) w cb b o y x) + hb (ix1 r) := by
  rw [val_main_v216_apply, val_main_v213_apply, val_main_v212_apply, val_main_v215_apply, val_main_v214_apply]
  refine congrArg₂ (· + ·) (Finset.sum_congr rfl fun o _ => ?_) (congrArg hb (funext fun a => match a with
    | ⟨0, _⟩ => Fin.ext (by show ((0 * 12 + r.val) * 1 + 0) * 1 + 0 = r.val; omega)))
  rw [mul_comm, val_main_v211_apply]
  refine congrArg₂ (· * ·) (congrArg hw (funext fun a => match a with
      | ⟨0, _⟩ => Fin.ext (by show (r.val * 256 + o.val) / 256 = r.val; omega)
      | ⟨1, _⟩ => Fin.ext (by show (r.val * 256 + o.val) / 1 % 256 = o.val; omega)
      | ⟨2, _⟩ => Fin.ext rfl
      | ⟨3, _⟩ => Fin.ext rfl)) ?_
  rw [← ref_hid16]
  exact congrArg (val_main_v204 (F := Ideal) f w cb) (funext fun a => match a with
      | ⟨0, _⟩ => Fin.ext rfl
      | ⟨1, _⟩ => Fin.ext rfl
      | ⟨2, _⟩ => Fin.ext rfl
      | ⟨3, _⟩ => Fin.ext rfl)

theorem ref_row16 (f : FVec Ideal S2x256x16x16 .f32) (w : FVec Ideal S256x256x3x3 .f32) (cb : FVec Ideal S256 .f32) (cw : FVec Ideal S3x256x1x1 .f32) (cl : FVec Ideal S3 .f32)
    (rw' : FVec Ideal S12x256x1x1 .f32) (rb : FVec Ideal S12 .f32) (b : Fin 2) (r : Fin 15) (p : Fin 256) (y x : Fin 16) (hp : p.val = 16 * y.val + x.val) :
    val_main_v218 (F := Ideal) f w cb cw cl rw' rb (ix3 b r p) = (∑ o : Fin 256, whead cw rw' r o * hid16 (val_main_v146 (F := Ideal) f) w cb b o y x) + bhead cl rb r := by
  rw [val_main_v218_apply]
  have e : idx_main_v218 (ix3 b r p) = ix4 b r y x := funext fun a => match a with
    | ⟨0, _⟩ => Fin.ext (by show ((b.val * 15 + r.val) * 256 + p.val) / 3840 = b.val; omega)
    | ⟨1, _⟩ => Fin.ext (by show ((b.val * 15 + r.val) * 256 + p.val) / 256 % 15 = r.val; omega)
    | ⟨2, _⟩ => Fin.ext (by show ((b.val * 15 + r.val) * 256 + p.val) / 16 % 16 = y.val; omega)
    | ⟨3, _⟩ => Fin.ext (by show ((b.val * 15 + r.val) * 256 + p.val) % 16 = x.val; omega)
  rw [e]
  unfold val_main_v217 whead bhead
  by_cases h : r.val < 3
  · simp only [dif_pos h]
    rw [← ref_cls16]
    exact concatenate_pair_apply_left (t := S2x15x16x16) (s₁ := S2x3x16x16) (s₂ := S2x12x16x16) 1 _ _ _ (ix4 b r y x) rfl (ix4 b ⟨r.val, h⟩ y x) (fun a => match a with
      | ⟨0, _⟩ => rfl
      | ⟨1, _⟩ => rfl
      | ⟨2, _⟩ => rfl
      | ⟨3, _⟩ => rfl)
  · simp only [dif_neg h]
    rw [← ref_reg16]
    exact concatenate_pair_apply_right (t := S2x15x16x16) (s₁ := S2x3x16x16) (s₂ := S2x12x16x16) 1 _ _ _ (ix4 b r y x) rfl rfl (ix4 b ⟨r.val - 3, by omega⟩ y x) (fun a h => match a, h with
      | ⟨0, _⟩, _ => rfl
      | ⟨1, _⟩, h => absurd rfl h
      | ⟨2, _⟩, _ => rfl
      | ⟨3, _⟩, _ => rfl) (by show r.val - 3 + 3 = r.val; omega)

end Cert.HeadsRef

end
-- ==== Proof.HEq.lean ====
module

public import proofs.«01_k».proof.Proof.HEntry
public import proofs.«01_k».proof.Proof.HRef
public import Idealize.ShloMosaic.Lib.KernelVsHost
public import Idealize.ShloMosaic.Lib.Pointwise

@[expose] public section

set_option maxRecDepth 16384

noncomputable section

open Idealize.ShloMosaic Idealize.ShloMosaic.TcCoe Idealize.SL.Sem

namespace Cert.Heads

open Cert.Kernel2Ideal Cert.Kernel2Ideal.Gen Cert.HeadsRef

theorem x9_at64 (f0 : FVec Ideal S2x256x64x64 .f32) (f1 : FVec Ideal S2x256x32x32 .f32) (f2 : FVec Ideal S2x256x16x16 .f32) (b : Fin 2) (k : Fin 2304) (q : Fin 4096) (p : Fin 10752) (hp : p.val = b.val * 5376 + 0 + q.val) :
    x9 f0 f1 f2 (ix2 k p) = cols64 (pad64 f0) (ix3 b k q) := by
  unfold x9
  rw [shapeCast_apply _ _ (ix2 k p) (ix3 k b (⟨0 + q.val, by omega⟩ : Fin 5376)) (by
    rw [Shape.rowMajor_val_three, Shape.rowMajor_val_two]
    show (k.val * 2 + b.val) * 5376 + (0 + q.val) = k.val * 10752 + p.val
    omega)]
  rw [transpose_apply _ _ _ _ (ix3 b k (⟨0 + q.val, by omega⟩ : Fin 5376)) (fun a => match a with
    | ⟨0, _⟩ => rfl
    | ⟨1, _⟩ => rfl
    | ⟨2, _⟩ => rfl)]
  exact concatenate_apply_piece (t := S2x2304x5376) 2 [⟨S2x2304x4096, cols64 (pad64 f0)⟩, ⟨S2x2304x1024, cols32 (pad32 f1)⟩, ⟨S2x2304x256, cols16 (pad16 f2)⟩] _ _ 0 (by simp) S2x2304x4096 (cols64 (pad64 f0)) rfl rfl 0 rfl (ix3 b k q) (fun a h => match a, h with
    | ⟨0, _⟩, _ => rfl
    | ⟨1, _⟩, _ => rfl
    | ⟨2, _⟩, h => absurd rfl h) rfl

theorem x9_at32 (f0 : FVec Ideal S2x256x64x64 .f32) (f1 : FVec Ideal S2x256x32x32 .f32) (f2 : FVec Ideal S2x256x16x16 .f32) (b : Fin 2) (k : Fin 2304) (q : Fin 1024) (p : Fin 10752) (hp : p.val = b.val * 5376 + 4096 + q.val) :
    x9 f0 f1 f2 (ix2 k p) = cols32 (pad32 f1) (ix3 b k q) := by
  unfold x9
  rw [shapeCast_apply _ _ (ix2 k p) (ix3 k b (⟨4096 + q.val, by omega⟩ : Fin 5376)) (by
    rw [Shape.rowMajor_val_three, Shape.rowMajor_val_two]
    show (k.val * 2 + b.val) * 5376 + (4096 + q.val) = k.val * 10752 + p.val
    omega)]
  rw [transpose_apply _ _ _ _ (ix3 b k (⟨4096 + q.val, by omega⟩ : Fin 5376)) (fun a => match a with
    | ⟨0, _⟩ => rfl
    | ⟨1, _⟩ => rfl
    | ⟨2, _⟩ => rfl)]
  exact concatenate_apply_piece (t := S2x2304x5376) 2 [⟨S2x2304x4096, cols64 (pad64 f0)⟩, ⟨S2x2304x1024, cols32 (pad32 f1)⟩, ⟨S2x2304x256, cols16 (pad16 f2)⟩] _ _ 1 (by simp) S2x2304x1024 (cols32 (pad32 f1)) rfl rfl 4096 rfl (ix3 b k q) (fun a h => match a, h with
    | ⟨0, _⟩, _ => rfl
    | ⟨1, _⟩, _ => rfl
    | ⟨2, _⟩, h => absurd rfl h) rfl

theorem x9_at16 (f0 : FVec Ideal S2x256x64x64 .f32) (f1 : FVec Ideal S2x256x32x32 .f32) (f2 : FVec Ideal S2x256x16x16 .f32) (b : Fin 2) (k : Fin 2304) (q : Fin 256) (p : Fin 10752) (hp : p.val = b.val * 5376 + 5120 + q.val) :
    x9 f0 f1 f2 (ix2 k p) = cols16 (pad16 f2) (ix3 b k q) := by
  unfold x9
  rw [shapeCast_apply _ _ (ix2 k p) (ix3 k b (⟨5120 + q.val, by omega⟩ : Fin 5376)) (by
    rw [Shape.rowMajor_val_three, Shape.rowMajor_val_two]
    show (k.val * 2 + b.val) * 5376 + (5120 + q.val) = k.val * 10752 + p.val
    omega)]
  rw [transpose_apply _ _ _ _ (ix3 b k (⟨5120 + q.val, by omega⟩ : Fin 5376)) (fun a => match a with
    | ⟨0, _⟩ => rfl
    | ⟨1, _⟩ => rfl
    | ⟨2, _⟩ => rfl)]
  exact concatenate_apply_piece (t := S2x2304x5376) 2 [⟨S2x2304x4096, cols64 (pad64 f0)⟩, ⟨S2x2304x1024, cols32 (pad32 f1)⟩, ⟨S2x2304x256, cols16 (pad16 f2)⟩] _ _ 2 (by simp) S2x2304x256 (cols16 (pad16 f2)) rfl rfl 5120 rfl (ix3 b k q) (fun a h => match a, h with
    | ⟨0, _⟩, _ => rfl
    | ⟨1, _⟩, _ => rfl
    | ⟨2, _⟩, h => absurd rfl h) rfl

theorem w2_at (w : FVec Ideal S256x256x3x3 .f32) (o : Fin 256) (t : Fin 9) (c : Fin 256) (k : Fin 2304) (hk : k.val = t.val * 256 + c.val) :
    w2 w (ix2 o k) = w (ix4 o c ⟨t.val / 3, by omega⟩ ⟨t.val % 3, by omega⟩) := by
  unfold w2
  rw [shapeCast_apply _ _ (ix2 o k) (ix4 o (⟨t.val / 3, by omega⟩ : Fin 3) (⟨t.val % 3, by omega⟩ : Fin 3) c) (by
    rw [Shape.rowMajor_val_four, Shape.rowMajor_val_two]
    show ((o.val * 3 + t.val / 3) * 3 + t.val % 3) * 256 + c.val = o.val * 2304 + k.val
    omega)]
  exact transpose_apply _ _ _ _ _ (fun a => match a with
    | ⟨0, _⟩ => rfl
    | ⟨1, _⟩ => rfl
    | ⟨2, _⟩ => rfl
    | ⟨3, _⟩ => rfl)

theorem cb_at (b : FVec Ideal S256 .f32) (o : Fin 256) : cb b (ix2 o 0) = b (ix1 o) := by
  unfold cb
  exact shapeCast_apply _ _ _ _ (by
    rw [Shape.rowMajor_val_two, Shape.rowMajor_val_one]
    show o.val = o.val * 1 + 0
    omega)

theorem wh_at (cw : FVec Ideal S3x256x1x1 .f32) (rw' : FVec Ideal S12x256x1x1 .f32) (r : Fin 16) (r' : Fin 15) (hr : r.val = r'.val) (o : Fin 256) :
    wh cw rw' (ix2 r o) = whead cw rw' r' o := by
  unfold wh whead
  rw [pad_apply_of_inside _ _ _ _ _ _ _ (ix2 r o) (ix2 r' o) (fun a => match a with
    | ⟨0, _⟩ => by show r.val = 0 + r'.val * (0 + 1); omega
    | ⟨1, _⟩ => by show o.val = 0 + o.val * (0 + 1); omega)]
  by_cases h : r'.val < 3
  · simp only [dif_pos h]
    rw [concatenate_pair_apply_left (t := S15x256) (s₁ := S3x256) (s₂ := S12x256) 0 _ _ _ (ix2 r' o) rfl (ix2 ⟨r'.val, h⟩ o) (fun a => match a with
      | ⟨0, _⟩ => rfl
      | ⟨1, _⟩ => rfl)]
    exact shapeCast_apply _ _ _ _ (by
      rw [Shape.rowMajor_val_two, Shape.rowMajor_val_four]
      show ((r'.val * 256 + o.val) * 1 + 0) * 1 + 0 = r'.val * 256 + o.val
      omega)
  · simp only [dif_neg h]
    rw [concatenate_pair_apply_right (t := S15x256) (s₁ := S3x256) (s₂ := S12x256) 0 _ _ _ (ix2 r' o) rfl rfl (ix2 ⟨r'.val - 3, by omega⟩ o) (fun a h => match a, h with
      | ⟨0, _⟩, h => absurd rfl h
      | ⟨1, _⟩, _ => rfl) (by show r'.val - 3 + 3 = r'.val; omega)]
    exact shapeCast_apply _ _ _ _ (by
      rw [Shape.rowMajor_val_two, Shape.rowMajor_val_four]
      show (((r'.val - 3) * 256 + o.val) * 1 + 0) * 1 + 0 = (r'.val - 3) * 256 + o.val
      omega)

theorem wh_last (cw : FVec Ideal S3x256x1x1 .f32) (rw' : FVec Ideal S12x256x1x1 .f32) (r : Fin 16) (hr : r.val = 15) (o : Fin 256) :
    wh cw rw' (ix2 r o) = 0 := by
  unfold wh
  rw [pad_apply_of_not_inside _ _ _ _ _ _ _ (ix2 r o) 0 (by
    show ¬(0 ≤ r.val ∧ (r.val - 0) % (0 + 1) = 0 ∧ (r.val - 0) / (0 + 1) < 15)
    omega)]
  exact sitofp_zero

theorem hb_at (cl : FVec Ideal S3 .f32) (rb : FVec Ideal S12 .f32) (r : Fin 16) (r' : Fin 15) (hr : r.val = r'.val) :
    hb cl rb (ix2 r 0) = bhead cl rb r' := by
  unfold hb bhead
  rw [shapeCast_apply _ _ (ix2 r 0) (ix1 r) (by
    rw [Shape.rowMajor_val_two, Shape.rowMajor_val_one]
    show r.val = r.val * 1 + 0
    omega)]
  rw [pad_apply_of_inside _ _ _ _ _ _ _ (ix1 r) (ix1 r') (fun a => match a with
    | ⟨0, _⟩ => by show r.val = 0 + r'.val * (0 + 1); omega)]
  by_cases h : r'.val < 3
  · simp only [dif_pos h]
    exact concatenate_pair_apply_left (t := S15) (s₁ := S3) (s₂ := S12) 0 _ _ _ (ix1 r') rfl (ix1 ⟨r'.val, h⟩) (fun a => match a with
      | ⟨0, _⟩ => rfl)
  · simp only [dif_neg h]
    exact concatenate_pair_apply_right (t := S15) (s₁ := S3) (s₂ := S12) 0 _ _ _ (ix1 r') rfl rfl (ix1 ⟨r'.val - 3, by omega⟩) (fun a h => match a, h with
      | ⟨0, _⟩, h => absurd rfl h) (by show r'.val - 3 + 3 = r'.val; omega)

theorem hb_last (cl : FVec Ideal S3 .f32) (rb : FVec Ideal S12 .f32) (r : Fin 16) (hr : r.val = 15) :
    hb cl rb (ix2 r 0) = 0 := by
  unfold hb
  rw [shapeCast_apply _ _ (ix2 r 0) (ix1 r) (by
    rw [Shape.rowMajor_val_two, Shape.rowMajor_val_one]
    show r.val = r.val * 1 + 0
    omega)]
  rw [pad_apply_of_not_inside _ _ _ _ _ _ _ (ix1 r) 0 (by
    show ¬(0 ≤ r.val ∧ (r.val - 0) % (0 + 1) = 0 ∧ (r.val - 0) / (0 + 1) < 15)
    omega)]
  exact sitofp_zero

theorem hid_at64 (f0 : FVec Ideal S2x256x64x64 .f32) (f1 : FVec Ideal S2x256x32x32 .f32) (f2 : FVec Ideal S2x256x16x16 .f32) (w : FVec Ideal S256x256x3x3 .f32) (b0 : FVec Ideal S256 .f32) (b : Fin 2) (o : Fin 256) (y x : Fin 64) (p : Fin 10752)
    (hp : p.val = b.val * 5376 + 0 + (64 * y.val + x.val)) :
    max ((∑ k : Fin 2304, w2 w (ix2 o k) * x9 f0 f1 f2 (ix2 k p)) + cb b0 (ix2 o 0)) 0 = hid64 (Cert.Reference2Ideal.Read.val_main_v0 (F := Ideal) f0) w b0 b o y x := by
  unfold hid64
  rw [cb_at, Fin.sum_univ_tiles 9 256 rfl]
  refine congrArg₂ max (congrArg₂ (· + ·) (Finset.sum_congr rfl fun t _ => Finset.sum_congr rfl fun c _ => ?_) rfl) rfl
  rw [w2_at w o t c _ rfl, x9_at64 f0 f1 f2 b _ (⟨64 * y.val + x.val, by omega⟩ : Fin 4096) p hp,
    cols64_at (pad64 f0) b t c y x _ _ (by show t.val * 256 + c.val = 256 * t.val + c.val; omega) rfl]
  rfl

theorem hid_at32 (f0 : FVec Ideal S2x256x64x64 .f32) (f1 : FVec Ideal S2x256x32x32 .f32) (f2 : FVec Ideal S2x256x16x16 .f32) (w : FVec Ideal S256x256x3x3 .f32) (b0 : FVec Ideal S256 .f32) (b : Fin 2) (o : Fin 256) (y x : Fin 32) (p : Fin 10752)
    (hp : p.val = b.val * 5376 + 4096 + (32 * y.val + x.val)) :
    max ((∑ k : Fin 2304, w2 w (ix2 o k) * x9 f0 f1 f2 (ix2 k p)) + cb b0 (ix2 o 0)) 0 = hid32 (Cert.Reference2Ideal.Read.val_main_v73 (F := Ideal) f1) w b0 b o y x := by
  unfold hid32
  rw [cb_at, Fin.sum_univ_tiles 9 256 rfl]
  refine congrArg₂ max (congrArg₂ (· + ·) (Finset.sum_congr rfl fun t _ => Finset.sum_congr rfl fun c _ => ?_) rfl) rfl
  rw [w2_at w o t c _ rfl, x9_at32 f0 f1 f2 b _ (⟨32 * y.val + x.val, by omega⟩ : Fin 1024) p hp,
    cols32_at (pad32 f1) b t c y x _ _ (by show t.val * 256 + c.val = 256 * t.val + c.val; omega) rfl]
  rfl

theorem hid_at16 (f0 : FVec Ideal S2x256x64x64 .f32) (f1 : FVec Ideal S2x256x32x32 .f32) (f2 : FVec Ideal S2x256x16x16 .f32) (w : FVec Ideal S256x256x3x3 .f32) (b0 : FVec Ideal S256 .f32) (b : Fin 2) (o : Fin 256) (y x : Fin 16) (p : Fin 10752)
    (hp : p.val = b.val * 5376 + 5120 + (16 * y.val + x.val)) :
    max ((∑ k : Fin 2304, w2 w (ix2 o k) * x9 f0 f1 f2 (ix2 k p)) + cb b0 (ix2 o 0)) 0 = hid16 (Cert.Reference2Ideal.Read.val_main_v146 (F := Ideal) f2) w b0 b o y x := by
  unfold hid16
  rw [cb_at, Fin.sum_univ_tiles 9 256 rfl]
  refine congrArg₂ max (congrArg₂ (· + ·) (Finset.sum_congr rfl fun t _ => Finset.sum_congr rfl fun c _ => ?_) rfl) rfl
  rw [w2_at w o t c _ rfl, x9_at16 f0 f1 f2 b _ (⟨16 * y.val + x.val, by omega⟩ : Fin 256) p hp,
    cols16_at (pad16 f2) b t c y x _ _ (by show t.val * 256 + c.val = 256 * t.val + c.val; omega) rfl]
  rfl

/-- The two programs compute one array. -/
theorem heads_eq (f0 : FVec Ideal S2x256x64x64 .f32) (f1 : FVec Ideal S2x256x32x32 .f32) (f2 : FVec Ideal S2x256x16x16 .f32) (w : FVec Ideal S256x256x3x3 .f32) (b0 : FVec Ideal S256 .f32) (cw : FVec Ideal S3x256x1x1 .f32) (cl : FVec Ideal S3 .f32) (rw' : FVec Ideal S12x256x1x1 .f32) (rb : FVec Ideal S12 .f32) :
    HD (w2 w) (x9 f0 f1 f2) (cb b0) (wh cw rw') (hb cl rb) = Cert.Reference2Ideal.Read.val_main_v222 (F := Ideal) f0 f1 f2 w b0 cw cl rw' rb := by
  funext i
  obtain ⟨r, p, rfl⟩ : ∃ (r : Fin 16) (p : Fin 10752), i = ix2 r p := ⟨i 0, i 1, funext fun a => match a with | ⟨0, _⟩ => rfl | ⟨1, _⟩ => rfl⟩
  show (∑ o : Fin 256, wh cw rw' (ix2 r o) * max ((∑ k : Fin 2304, w2 w (ix2 o k) * x9 f0 f1 f2 (ix2 k p)) + cb b0 (ix2 o 0)) 0) + hb cl rb (ix2 r 0) = _
  unfold Cert.Reference2Ideal.Read.val_main_v222
  by_cases h : r.val = 15
  · rw [hb_last cl rb r h, Finset.sum_eq_zero (fun o _ => by rw [wh_last cw rw' r h o, zero_mul]), zero_add]
    rw [pad_apply_of_not_inside _ _ _ _ _ _ _ (ix2 r p) 0 (by
      show ¬(0 ≤ r.val ∧ (r.val - 0) % (0 + 1) = 0 ∧ (r.val - 0) / (0 + 1) < 15)
      omega)]
    exact sitofp_zero.symm
  obtain ⟨r', hr⟩ : ∃ r' : Fin 15, r.val = r'.val := ⟨⟨r.val, by omega⟩, rfl⟩
  obtain ⟨b, q, hb⟩ : ∃ (b : Fin 2) (q : Fin 5376), p.val = b.val * 5376 + q.val :=
    ⟨⟨p.val / 5376, by omega⟩, ⟨p.val % 5376, by omega⟩, by show p.val = p.val / 5376 * 5376 + p.val % 5376; omega⟩
  rw [pad_apply_of_inside _ _ _ _ _ _ _ (ix2 r p) (ix2 r' p) (fun a => match a with
    | ⟨0, _⟩ => by show r.val = 0 + r'.val * (0 + 1); omega
    | ⟨1, _⟩ => by show p.val = 0 + p.val * (0 + 1); omega)]
  rw [hb_at cl rb r r' hr, Cert.Reference2Ideal.Read.val_main_v221_apply, Cert.Reference2Ideal.Read.val_main_v220_apply]
  simp only [wh_at cw rw' r r' hr]
  have e : Cert.Reference2Ideal.Read.idx_main_v220 (Cert.Reference2Ideal.Read.idx_main_v221 (ix2 r' p)) = ix3 b r' q := funext fun a => match a with
    | ⟨0, _⟩ => Fin.ext (by show (r'.val * 10752 + p.val) / 5376 % 2 = b.val; omega)
    | ⟨1, _⟩ => Fin.ext (by show (r'.val * 10752 + p.val) / 10752 = r'.val; omega)
    | ⟨2, _⟩ => Fin.ext (by show (r'.val * 10752 + p.val) % 5376 = q.val; omega)
  rw [e]
  unfold Cert.Reference2Ideal.Read.val_main_v219
  by_cases h0 : q.val < 4096
  · obtain ⟨y, x, hq⟩ : ∃ (y x : Fin 64), q.val = 0 + (64 * y.val + x.val) :=
      ⟨⟨(q.val - 0) / 64, by omega⟩, ⟨(q.val - 0) % 64, by omega⟩, by show q.val = 0 + (64 * ((q.val - 0) / 64) + (q.val - 0) % 64); omega⟩
    have hp : p.val = b.val * 5376 + 0 + (64 * y.val + x.val) := by omega
    simp only [hid_at64 f0 f1 f2 w b0 b _ y x p hp]
    rw [← ref_row64 f0 w b0 cw cl rw' rb b r' ⟨64 * y.val + x.val, by omega⟩ y x rfl]
    exact (concatenate_apply_piece (t := Cert.Reference2Ideal.S2x15x5376) 2 [⟨Cert.Reference2Ideal.S2x15x4096, Cert.Reference2Ideal.Read.val_main_v72 (F := Ideal) f0 w b0 cw cl rw' rb⟩, ⟨Cert.Reference2Ideal.S2x15x1024, Cert.Reference2Ideal.Read.val_main_v145 (F := Ideal) f1 w b0 cw cl rw' rb⟩, ⟨Cert.Reference2Ideal.S2x15x256, Cert.Reference2Ideal.Read.val_main_v218 (F := Ideal) f2 w b0 cw cl rw' rb⟩] _ (ix3 b r' q) 0 (by simp) Cert.Reference2Ideal.S2x15x4096 _ rfl rfl 0 rfl (ix3 b r' ⟨64 * y.val + x.val, by omega⟩) (fun a h => match a, h with
      | ⟨0, _⟩, _ => rfl
      | ⟨1, _⟩, _ => rfl
      | ⟨2, _⟩, h => absurd rfl h) hq.symm).symm
  by_cases h1 : q.val < 5120
  · obtain ⟨y, x, hq⟩ : ∃ (y x : Fin 32), q.val = 4096 + (32 * y.val + x.val) :=
      ⟨⟨(q.val - 4096) / 32, by omega⟩, ⟨(q.val - 4096) % 32, by omega⟩, by show q.val = 4096 + (32 * ((q.val - 4096) / 32) + (q.val - 4096) % 32); omega⟩
    have hp : p.val = b.val * 5376 + 4096 + (32 * y.val + x.val) := by omega
    simp only [hid_at32 f0 f1 f2 w b0 b _ y x p hp]
    rw [← ref_row32 f1 w b0 cw cl rw' rb b r' ⟨32 * y.val + x.val, by omega⟩ y x rfl]
    exact (concatenate_apply_piece (t := Cert.Reference2Ideal.S2x15x5376) 2 [⟨Cert.Reference2Ideal.S2x15x4096, Cert.Reference2Ideal.Read.val_main_v72 (F := Ideal) f0 w b0 cw cl rw' rb⟩, ⟨Cert.Reference2Ideal.S2x15x1024, Cert.Reference2Ideal.Read.val_main_v145 (F := Ideal) f1 w b0 cw cl rw' rb⟩, ⟨Cert.Reference2Ideal.S2x15x256, Cert.Reference2Ideal.Read.val_main_v218 (F := Ideal) f2 w b0 cw cl rw' rb⟩] _ (ix3 b r' q) 1 (by simp) Cert.Reference2Ideal.S2x15x1024 _ rfl rfl 4096 rfl (ix3 b r' ⟨32 * y.val + x.val, by omega⟩) (fun a h => match a, h with
      | ⟨0, _⟩, _ => rfl
      | ⟨1, _⟩, _ => rfl
      | ⟨2, _⟩, h => absurd rfl h) hq.symm).symm
  obtain ⟨y, x, hq⟩ : ∃ (y x : Fin 16), q.val = 5120 + (16 * y.val + x.val) :=
    ⟨⟨(q.val - 5120) / 16, by omega⟩, ⟨(q.val - 5120) % 16, by omega⟩, by show q.val = 5120 + (16 * ((q.val - 5120) / 16) + (q.val - 5120) % 16); omega⟩
  have hp : p.val = b.val * 5376 + 5120 + (16 * y.val + x.val) := by omega
  simp only [hid_at16 f0 f1 f2 w b0 b _ y x p hp]
  rw [← ref_row16 f2 w b0 cw cl rw' rb b r' ⟨16 * y.val + x.val, by omega⟩ y x rfl]
  exact (concatenate_apply_piece (t := Cert.Reference2Ideal.S2x15x5376) 2 [⟨Cert.Reference2Ideal.S2x15x4096, Cert.Reference2Ideal.Read.val_main_v72 (F := Ideal) f0 w b0 cw cl rw' rb⟩, ⟨Cert.Reference2Ideal.S2x15x1024, Cert.Reference2Ideal.Read.val_main_v145 (F := Ideal) f1 w b0 cw cl rw' rb⟩, ⟨Cert.Reference2Ideal.S2x15x256, Cert.Reference2Ideal.Read.val_main_v218 (F := Ideal) f2 w b0 cw cl rw' rb⟩] _ (ix3 b r' q) 2 (by simp) Cert.Reference2Ideal.S2x15x256 _ rfl rfl 5120 rfl (ix3 b r' ⟨16 * y.val + x.val, by omega⟩) (fun a h => match a, h with
    | ⟨0, _⟩, _ => rfl
    | ⟨1, _⟩, _ => rfl
    | ⟨2, _⟩, h => absurd rfl h) hq.symm).symm

end Cert.Heads

end
-- ==== Proof.HClaim.lean ====
module

public import proofs.«01_k».proof.Proof.HEq
public import proofs.«01_k».proof.Proof.Gen.Kernel2Ideal.Value
public import proofs.«01_k».proof.Proof.Gen.Reference2Ideal.Run
public import Idealize.ShloMosaic.Lib.Quiescent

@[expose] public section

set_option maxRecDepth 16384

noncomputable section

open Idealize.ShloMosaic Idealize.ShloMosaic.TcCoe Idealize.SL.Sem

namespace Cert.Heads

open Cert.Kernel2Ideal Cert.Kernel2Ideal.Gen

/-- What the kernel's result array holds, as the reference's term of the arguments. -/
theorem kernel_result (m : (ℓ : Loc nD τ sig) → Buf (Elt Ideal) ℓ) (c : Dev nD) : (dats m 0 c).arrAt 5 cfg0.N
    = Cert.Reference2Ideal.Read.val_main_v222 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  refine (final m c).trans ?_
  rw [e67, e65, e75, e71, e74]
  exact heads_eq _ _ _ _ _ _ _ _ _

end Cert.Heads

namespace Cert.HeadsRef

open Cert.Reference2Ideal

variable {F : FTy → Type} [FloatOps F]

/-- The reference's frame, from its run; it has no semaphore. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0 :=
  (θ_run defs _ _).mono (fun r h => ⟨fun c => (h c).2, sem_eq_zero_of_no_sems (by decide) r.2⟩) (Cert.Reference2Ideal.Value.run m ρ)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v222) = Cert.Reference2Ideal.Read.val_main_v222 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (Cert.Reference2Ideal.Read.val_main_v222_eq (StableHlo.launchContents m c)), (h c).2⟩) (Cert.Reference2Ideal.Value.run m ρ)

end Cert.HeadsRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.HClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.Kernel2.Gen.facts, Cert.Kernel2Ideal.Gen.facts, Cert.Reference2Ideal.Gen.facts, by
  refine ⟨?_, ?_, ?_, ?_, ?_, trivial, trivial, ?_⟩
  · exact fun m g _ => Cert.Kernel.Gen.frame m g
  · exact fun m g _ => Cert.KernelIdeal.Gen.frame m g
  · exact fun m g _ => Cert.Kernel2.Gen.frame m g
  · exact fun m g _ => Cert.Kernel2Ideal.Gen.frame m g
  · exact fun m g _ => Cert.HeadsRef.frame m g
  · intro m g m' g' _ hm
    refine ⟨fun c => (Cert.Kernel2Ideal.Gen.dats m 0 c).arrAt 5 Cert.Kernel2Ideal.cfg0.N, Cert.Kernel2Ideal.Value.run_blocks m g, ?_⟩
    refine (θ_run _ _ _).mono (fun r h c => ?_) (Cert.HeadsRef.run m' g')
    refine ⟨(h c).1.trans ?_, (h c).2⟩
    show _ = (Cert.Kernel2Ideal.Gen.dats m 0 c).arrAt 5 Cert.Kernel2Ideal.cfg0.N
    rw [Cert.Heads.kernel_result m c]
    obtain ⟨h0, h1, h2, h3, h4, h5, h6, h7, h8⟩ := hm c
    rw [h0, h1, h2, h3, h4, h5, h6, h7, h8]⟩

end Cert.Proof

end
